-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "pad" .f32 0x7149F2CA#32 ⊤
  ∧ IdealRules.named_const.Statement Cert.KernelIdeal.κ "root_two" .f32 0x3FB504F3#32 ((Real.sqrt 2 : ℝ) : EReal)

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S1024x200x64 : Shape := ⟨3, ![1024, 200, 64]⟩
abbrev S1024x200 : Shape := ⟨2, ![1024, 200]⟩
abbrev S128x64 : Shape := ⟨2, ![128, 64]⟩
abbrev S128 : Shape := ⟨1, ![128]⟩
abbrev S_ : Shape := ⟨0, ![]⟩
abbrev S1024 : Shape := ⟨1, ![1024]⟩

class Facts : Prop where
  bcast_S_S1024x200x64 : S_.BroadcastsInDim S1024x200x64 (![] : Fin 0 → Fin S1024x200x64.rank)
  reducesTo_S1024x200x64_S_d0_1_2 : S1024x200x64.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  reducesTo_S1024x200_S1024_d1 : S1024x200.ReducesTo [1] S1024
  bcast_S_S1024 : S_.BroadcastsInDim S1024 (![] : Fin 0 → Fin S1024.rank)
  reducesTo_S1024_S_d0 : S1024.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v15 : IVec S128 1) : IVec S_ 1 :=
  let main_c_6 : IVec S_ 1 := constantI S_ 1 1#1
  let main_v16 : IVec S_ 1 := (fun x v => Host.reduce IntOp.andi x v reducesTo_S128_S_d0 h_S_) main_v15 main_c_6
  let main_v17 : IVec S_ 1 := andi main_v13 main_v16
  main_v17

def fn {F : FTy → Type} [FloatOps F] (main_arg0 : FVec F S1024x200x64 .f32) (main_arg1 : FVec F S1024x200 .f32) (main_arg2 : FVec F S128x64 .f32) (main_arg3 : FVec F S128 .f32) : IVec S_ 1 :=
  let main_v0 : FVec F S1024x200x64 .f32 := Host.absf main_arg0
  let main_cst : FVec F S_ .f32 := constant S_ .f32 0x7F800000#32
  let main_v1 : FVec F S1024x200x64 .f32 := broadcastInDim S1024x200x64 ![] bcast_S_S1024x200x64 main_cst
  let main_v2 : IVec S1024x200x64 1 := cmpf .olt main_v0 main_v1
  let main_c : IVec S_ 1 := constantI S_ 1 1#1
  let main_v3 : IVec S_ 1 := (fun x v => Host.reduce IntOp.andi x v reducesTo_S1024x200x64_S_d0_1_2 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_cst_2 : FVec F S_ .f32 := constant S_ .f32 0x00000000#32
  let main_v9 : FVec F S1024 .f32 := (fun x v => Host.reduceAdd x v reducesTo_S1024x200_S1024_d1 h_S_) main_arg1 main_cst_2
  let main_cst_3 : FVec F S_ .f32 := constant S_ .f32 0x00000000#32
  let main_v10 : FVec F S1024 .f32 := broadcastInDim S1024 ![] bcast_S_S1024 main_cst_3
  let main_v11 : IVec S1024 1 := cmpf .une main_v9 main_v10
  let main_c_4 : IVec S_ 1 := constantI S_ 1 1#1
  let main_v12 : IVec S_ 1 := (fun x v => Host.reduce IntOp.andi x v reducesTo_S1024_S_d0 h_S_) main_v11 main_c_4
  let main_v13 : IVec S_ 1 := andi main_v8 main_v12
  let main_cst_5 : FVec F S_ .f32 := constant S_ .f32 0x00000000#32
  let main_v14 : FVec F S128 .f32 := broadcastInDim S128 ![] bcast_S_S128 main_cst_5
  let main_v15 : IVec S128 1 := cmpf .une main_arg3 main_v14
  fn_part1 (F := F) main_v13 main_v15
-- ==== Kernel.lean ====
abbrev S1024x200x64 : Shape := ⟨3, ![1024, 200, 64]⟩
abbrev S1024x200 : Shape := ⟨2, ![1024, 200]⟩
abbrev S128x64 : Shape := ⟨2, ![128, 64]⟩
abbrev S128 : Shape := ⟨1, ![128]⟩
abbrev S256 : Shape := ⟨1, ![256]⟩
abbrev S_ : Shape := ⟨0, ![]⟩
abbrev S204800x64 : Shape := ⟨2, ![204800, 64]⟩
abbrev S1024 : Shape := ⟨1, ![1024]⟩
abbrev S1024x1 : Shape := ⟨2, ![1024, 1]⟩
abbrev S1024x256 : Shape := ⟨2, ![1024, 256]⟩
abbrev S262144x1 : Shape := ⟨2, ![262144, 1]⟩
abbrev S64x128 : Shape := ⟨2, ![64, 128]⟩
abbrev S1x256 : Shape := ⟨2, ![1, 256]⟩
abbrev S256x1 : Shape := ⟨2, ![256, 1]⟩
abbrev S256x256 : Shape := ⟨2, ![256, 256]⟩
abbrev S512x256 : Shape := ⟨2, ![512, 256]⟩
abbrev S1x1024 : Shape := ⟨2, ![1, 1024]⟩
abbrev S4 : Shape := ⟨1, ![4]⟩
abbrev S4x1 : Shape := ⟨2, ![4, 1]⟩
abbrev S4x1024 : Shape := ⟨2, ![4, 1024]⟩
abbrev S1x128 : Shape := ⟨2, ![1, 128]⟩
abbrev S256x4x128 : Shape := ⟨3, ![256, 4, 128]⟩
abbrev S800x64 : Shape := ⟨2, ![800, 64]⟩
abbrev S1x4x128 : Shape := ⟨3, ![1, 4, 128]⟩
abbrev S1024x128 : Shape := ⟨2, ![1024, 128]⟩
abbrev S800x128 : Shape := ⟨2, ![800, 128]⟩
abbrev S56x128 : Shape := ⟨2, ![56, 128]⟩
abbrev S200x128 : Shape := ⟨2, ![200, 128]⟩
abbrev S16x2x32x128 : Shape := ⟨4, ![16, 2, 32, 128]⟩
abbrev S16x1x32x128 : Shape := ⟨4, ![16, 1, 32, 128]⟩
abbrev S16x32x128 : Shape := ⟨3, ![16, 32, 128]⟩
abbrev S8x2x64x128 : Shape := ⟨4, ![8, 2, 64, 128]⟩
abbrev S8x1x64x128 : Shape := ⟨4, ![8, 1, 64, 128]⟩
abbrev S8x64x128 : Shape := ⟨3, ![8, 64, 128]⟩
abbrev S4x2x128x128 : Shape := ⟨4, ![4, 2, 128, 128]⟩
abbrev S4x1x128x128 : Shape := ⟨4, ![4, 1, 128, 128]⟩
abbrev S4x128x128 : Shape := ⟨3, ![4, 128, 128]⟩
abbrev S64x2x8x128 : Shape := ⟨4, ![64, 2, 8, 128]⟩
abbrev S64x1x8x128 : Shape := ⟨4, ![64, 1, 8, 128]⟩
abbrev S64x8x128 : Shape := ⟨3, ![64, 8, 128]⟩
abbrev S32x2x16x128 : Shape := ⟨4, ![32, 2, 16, 128]⟩
abbrev S32x1x16x128 : Shape := ⟨4, ![32, 1, 16, 128]⟩
abbrev S32x16x128 : Shape := ⟨3, ![32, 16, 128]⟩
abbrev S1023x128 : Shape := ⟨2, ![1023, 128]⟩
abbrev S2x128 : Shape := ⟨2, ![2, 128]⟩
abbrev S1022x128 : Shape := ⟨2, ![1022, 128]⟩
abbrev S4x128 : Shape := ⟨2, ![4, 128]⟩
abbrev S1020x128 : Shape := ⟨2, ![1020, 128]⟩
abbrev S256x128 : Shape := ⟨2, ![256, 128]⟩

abbrev nBuf : Space → Nat
  | .hbm => 96
  | .vmem => 11
  | .smem => 0
  | _ => 0

abbrev bufTy : (tb : Table) → Fin (tcTables nBuf tb) → BufTy
  | .hbm, ⟨0, _⟩ => ⟨S1024x200x64, .f32⟩
  | .hbm, ⟨1, _⟩ => ⟨S1024x200, .f32⟩
  | .hbm, ⟨2, _⟩ => ⟨S128x64, .f32⟩
  | .hbm, ⟨3, _⟩ => ⟨S128, .f32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i32⟩
  | .hbm, ⟨21, _⟩ => ⟨S256, .i32⟩
  | .hbm, ⟨22, _⟩ => ⟨S204800x64, .f32⟩
  | .hbm, ⟨23, _⟩ => ⟨S_, .f32⟩
  | .hbm, ⟨24, _⟩ => ⟨S1024, .f32⟩
  | .hbm, ⟨25, _⟩ => ⟨S1024x1, .f32⟩
  | .hbm, ⟨26, _⟩ => ⟨S1024x200, .f32⟩
  | .hbm, ⟨27, _⟩ => ⟨S1024x200, .f32⟩
  | .hbm, ⟨28, _⟩ => ⟨S_, .i32⟩
  | .hbm, ⟨29, _⟩ => ⟨S_, .f32⟩
  | .hbm, ⟨30, _⟩ => ⟨S1024x256, .f32⟩
  | .hbm, ⟨31, _⟩ => ⟨S262144x1, .f32⟩
  | .hbm, ⟨32, _⟩ => ⟨S64x128, .f32⟩
  | .hbm, ⟨33, _⟩ => ⟨S1x256, .i32⟩
  | .hbm, ⟨34, _⟩ => ⟨S256x1, .i32⟩
  | .hbm, ⟨35, _⟩ => ⟨S256x256, .i32⟩
  | .hbm, ⟨36, _⟩ => ⟨S256x256, .i32⟩
  | .hbm, ⟨37, _⟩ => ⟨S256x256, .i1⟩
  | .hbm, ⟨38, _⟩ => ⟨S256x256, .f32⟩
  | .hbm, ⟨39, _⟩ => ⟨S256x256, .i32⟩
  | .hbm, ⟨40, _⟩ => ⟨S256x256, .i32⟩
  | .hbm, ⟨41, _⟩ => ⟨S_, .i32⟩
  | .hbm, ⟨42, _⟩ => ⟨S256x256, .i32⟩
  | .hbm, ⟨43, _⟩ => ⟨S256x256, .i32⟩
  | .hbm, ⟨44, _⟩ => ⟨S256x256, .i1⟩
  | .hbm, ⟨45, _⟩ => ⟨S256x256, .f32⟩
  | .hbm, ⟨46, _⟩ => ⟨S1x256, .i32⟩
  | .hbm, ⟨47, _⟩ => ⟨S256x1, .i32⟩
  | .hbm, ⟨48, _⟩ => ⟨S_, .i32⟩
  | .hbm, ⟨49, _⟩ => ⟨S256x1, .i32⟩
  | .hbm, ⟨50, _⟩ => ⟨S256x1, .i32⟩
  | .hbm, ⟨51, _⟩ => ⟨S256x256, .i32⟩
  | .hbm, ⟨52, _⟩ => ⟨S256x256, .i32⟩
  | .hbm, ⟨53, _⟩ => ⟨S256x256, .i1⟩
  | .hbm, ⟨54, _⟩ => ⟨S256x256, .f32⟩
  | .hbm, ⟨55, _⟩ => ⟨S256x256, .f32⟩
  | .hbm, ⟨56, _⟩ => ⟨S512x256, .f32⟩
  | .hbm, ⟨57, _⟩ => ⟨S1024, .i32⟩
  | .hbm, ⟨58, _⟩ => ⟨S_, .i32⟩
  | .hbm, ⟨59, _⟩ => ⟨S_, .i32⟩
  | .hbm, ⟨60, _⟩ => ⟨S1024, .i32⟩
  | .hbm, ⟨61, _⟩ => ⟨S1024, .i32⟩
  | .hbm, ⟨62, _⟩ => ⟨S1024, .i32⟩
  | .hbm, ⟨63, _⟩ => ⟨S_, .i32⟩
  | .hbm, ⟨64, _⟩ => ⟨S1024, .i32⟩
  | .hbm, ⟨65, _⟩ => ⟨S1024, .i1⟩
  | .hbm, ⟨66, _⟩ => ⟨S1024, .i32⟩
  | .hbm, ⟨67, _⟩ => ⟨S1024, .i32⟩
  | .hbm, ⟨68, _⟩ => ⟨S_, .i32⟩
  | .hbm, ⟨69, _⟩ => ⟨S1024, .i32⟩
  | .hbm, ⟨70, _⟩ => ⟨S1024, .i1⟩
  | .hbm, ⟨71, _⟩ => ⟨S1024, .i1⟩
  | .hbm, ⟨72, _⟩ => ⟨S_, .i32⟩
  | .hbm, ⟨73, _⟩ => ⟨S1024, .i32⟩
  | .hbm, ⟨74, _⟩ => ⟨S1024, .i32⟩
  | .hbm, ⟨75, _⟩ => ⟨S1024, .i32⟩
  | .hbm, ⟨76, _⟩ => ⟨S1x1024, .i32⟩
  | .hbm, ⟨77, _⟩ => ⟨S4, .i32⟩
  | .hbm, ⟨78, _⟩ => ⟨S4x1, .i32⟩
  | .hbm, ⟨79, _⟩ => ⟨S4x1024, .i32⟩
  | .hbm, ⟨80, _⟩ => ⟨S4x1024, .i32⟩
  | .hbm, ⟨81, _⟩ => ⟨S4x1024, .i1⟩
  | .hbm, ⟨82, _⟩ => ⟨S4x1024, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S1x128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S1x128, .f32⟩
  | .hbm, ⟨94, _⟩ => ⟨S256x4x128, .f32⟩
  | .hbm, ⟨95, _⟩ => ⟨S1024x128, .f32⟩
  | .local _ .vmem, ⟨0, _⟩ => ⟨S800x64, .f32⟩
  | .local _ .vmem, ⟨1, _⟩ => ⟨S800x64, .f32⟩
  | .local _ .vmem, ⟨2, _⟩ => ⟨S1024x1, .f32⟩
  | .local _ .vmem, ⟨3, _⟩ => ⟨S1024x1, .f32⟩
  | .local _ .vmem, ⟨4, _⟩ => ⟨S64x128, .f32⟩
  | .local _ .vmem, ⟨5, _⟩ => ⟨S512x256, .f32⟩
  | .local _ .vmem, ⟨6, _⟩ => ⟨S4x1024, .f32⟩
  | .local _ .vmem, ⟨7, _⟩ => ⟨S1x128, .f32⟩
  | .local _ .vmem, ⟨8, _⟩ => ⟨S1x128, .f32⟩
  | .local _ .vmem, ⟨9, _⟩ => ⟨S1x4x128, .f32⟩
  | .local _ .vmem, ⟨10, _⟩ => ⟨S1x4x128, .f32⟩
  | _, _ => ⟨S1024x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_c : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_0 : Ref sig .tc := ⟨.hbm, 72, rfl⟩
abbrev main_call1_v12 : Ref sig .tc := ⟨.hbm, 73, rfl⟩
abbrev main_call1_v13 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_9 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "pad" => some ⊤
  | "root_two" => some ((Real.sqrt 2 : ℝ) : EReal)
  | _ => none
-- ==== ReferenceIdeal.lean ====
abbrev S1024x200x64 : Shape := ⟨3, ![1024, 200, 64]⟩
abbrev S1024x200 : Shape := ⟨2, ![1024, 200]⟩
abbrev S128x64 : Shape := ⟨2, ![128, 64]⟩
abbrev S128 : Shape := ⟨1, ![128]⟩
abbrev S_ : Shape := ⟨0, ![]⟩
abbrev S1024 : Shape := ⟨1, ![1024]⟩
abbrev S1024x1 : Shape := ⟨2, ![1024, 1]⟩
abbrev S1024x200x128 : Shape := ⟨3, ![1024, 200, 128]⟩
abbrev S1024x200x128x1 : Shape := ⟨4, ![1024, 200, 128, 1]⟩
abbrev S1 : Shape := ⟨1, ![1]⟩
abbrev S1x1x1x1 : Shape := ⟨4, ![1, 1, 1, 1]⟩
abbrev S1024x200x1 : Shape := ⟨3, ![1024, 200, 1]⟩
abbrev S1x1x128 : Shape := ⟨3, ![1, 1, 128]⟩
abbrev S1024x128 : Shape := ⟨2, ![1024, 128]⟩

abbrev nBuf : Space → Nat
  | .hbm => 90
  | .vmem => 0
  | .smem => 0
  | _ => 0

abbrev bufTy : (tb : Table) → Fin (tcTables nBuf tb) → BufTy
  | .hbm, ⟨0, _⟩ => ⟨S1024x200x64, .f32⟩
  | .hbm, ⟨1, _⟩ => ⟨S1024x200, .f32⟩
  | .hbm, ⟨2, _⟩ => ⟨S128x64, .f32⟩
  | .hbm, ⟨3, _⟩ => ⟨S128, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x200, .f32⟩
  | .hbm, ⟨8, _⟩ => ⟨S1024x200, .f32⟩
  | .hbm, ⟨9, _⟩ => ⟨S1024x200x128, .f32⟩
  | .hbm, ⟨10, _⟩ => ⟨S1024x200x128, .i32⟩
  | .hbm, ⟨11, _⟩ => ⟨S1024x200x128, .f32⟩
  | .hbm, ⟨12, _⟩ => ⟨S1024x200x128, .i32⟩
  | .hbm, ⟨13, _⟩ => ⟨S_, .i32⟩
  | .hbm, ⟨14, _⟩ => ⟨S1024x200x128, .i32⟩
  | .hbm, ⟨15, _⟩ => ⟨S1024x200x128, .i1⟩
  | .hbm, ⟨16, _⟩ => ⟨S_, .i32⟩
  | .hbm, ⟨17, _⟩ => ⟨S1024x200x128, .i32⟩
  | .hbm, ⟨18, _⟩ => ⟨S1024x200x128, .i32⟩
  | .hbm, ⟨19, _⟩ => ⟨S1024x200x128, .i32⟩
  | .hbm, ⟨20, _⟩ => ⟨S1024x200x128x1, .i32⟩
  | .hbm, ⟨21, _⟩ => ⟨S1, .i32⟩
  | .hbm, ⟨22, _⟩ => ⟨S_, .i32⟩
  | .hbm, ⟨23, _⟩ => ⟨S1024x200x128x1, .i32⟩
  | .hbm, ⟨24, _⟩ => ⟨S1024x200x128x1, .i1⟩
  | .hbm, ⟨25, _⟩ => ⟨S1x1x1x1, .i32⟩
  | .hbm, ⟨26, _⟩ => ⟨S1024x200x128x1, .i32⟩
  | .hbm, ⟨27, _⟩ => ⟨S1024x200x128x1, .i1⟩
  | .hbm, ⟨28, _⟩ => ⟨S1024x200x128x1, .i1⟩
  | .hbm, ⟨29, _⟩ => ⟨S_, .i1⟩
  | .hbm, ⟨30, _⟩ => ⟨S1024x200x128, .i1⟩
  | .hbm, ⟨31, _⟩ => ⟨S1024x200x128, .f32⟩
  | .hbm, ⟨32, _⟩ => ⟨S_, .f32⟩
  | .hbm, ⟨33, _⟩ => ⟨S1024x200x128, .f32⟩
  | .hbm, ⟨34, _⟩ => ⟨S1024x200x128, .f32⟩
  | .hbm, ⟨35, _⟩ => ⟨S1024x200x1, .f32⟩
  | .hbm, ⟨36, _⟩ => ⟨S1024x200x128, .f32⟩
  | .hbm, ⟨37, _⟩ => ⟨S_, .i32⟩
  | .hbm, ⟨38, _⟩ => ⟨S1024x200x128, .i32⟩
  | .hbm, ⟨39, _⟩ => ⟨S1024x200x128, .i1⟩
  | .hbm, ⟨40, _⟩ => ⟨S_, .i32⟩
  | .hbm, ⟨41, _⟩ => ⟨S1024x200x128, .i32⟩
  | .hbm, ⟨42, _⟩ => ⟨S1024x200x128, .i32⟩
  | .hbm, ⟨43, _⟩ => ⟨S1024x200x128, .i32⟩
  | .hbm, ⟨44, _⟩ => ⟨S1024x200x128x1, .i32⟩
  | .hbm, ⟨45, _⟩ => ⟨S1, .i32⟩
  | .hbm, ⟨46, _⟩ => ⟨S_, .i32⟩
  | .hbm, ⟨47, _⟩ => ⟨S1024x200x128x1, .i32⟩
  | .hbm, ⟨48, _⟩ => ⟨S1024x200x128x1, .i1⟩
  | .hbm, ⟨49, _⟩ => ⟨S1x1x1x1, .i32⟩
  | .hbm, ⟨50, _⟩ => ⟨S1024x200x128x1, .i32⟩
  | .hbm, ⟨51, _⟩ => ⟨S1024x200x128x1, .i1⟩
  | .hbm, ⟨52, _⟩ => ⟨S1024x200x128x1, .i1⟩
  | .hbm, ⟨53, _⟩ => ⟨S_, .i1⟩
  | .hbm, ⟨54, _⟩ => ⟨S1024x200x128, .i1⟩
  | .hbm, ⟨55, _⟩ => ⟨S1024x200x128, .f32⟩
  | .hbm, ⟨56, _⟩ => ⟨S_, .f32⟩
  | .hbm, ⟨57, _⟩ => ⟨S1024x200x128, .f32⟩
  | .hbm, ⟨58, _⟩ => ⟨S1024x200x128, .f32⟩
  | .hbm, ⟨59, _⟩ => ⟨S_, .f32⟩
  | .hbm, ⟨60, _⟩ => ⟨S_, .f32⟩
  | .hbm, ⟨61, _⟩ => ⟨S1024x200x128, .f32⟩
  | .hbm, ⟨62, _⟩ => ⟨S1024x200x128, .f32⟩
  | .hbm, ⟨63, _⟩ => ⟨S1x1x128, .f32⟩
  | .hbm, ⟨64, _⟩ => ⟨S_, .f32⟩
  | .hbm, ⟨65, _⟩ => ⟨S1x1x128, .f32⟩
  | .hbm, ⟨66, _⟩ => ⟨S1x1x128, .f32⟩
  | .hbm, ⟨67, _⟩ => ⟨S1024x200x128, .f32⟩
  | .hbm, ⟨68, _⟩ => ⟨S1024x200x128, .f32⟩
  | .hbm, ⟨69, _⟩ => ⟨S1024x200x128, .f32⟩
  | .hbm, ⟨70, _⟩ => ⟨S_, .f32⟩
  | .hbm, ⟨71, _⟩ => ⟨S1x1x128, .f32⟩
  | .hbm, ⟨72, _⟩ => ⟨S1x1x128, .f32⟩
  | .hbm, ⟨73, _⟩ => ⟨S1024x200x128, .f32⟩
  | .hbm, ⟨74, _⟩ => ⟨S1024x200x128, .f32⟩
  | .hbm, ⟨75, _⟩ => ⟨S1024x200x128, .f32⟩
  | .hbm, ⟨76, _⟩ => ⟨S1024x200x128, .f32⟩
  | .hbm, ⟨77, _⟩ => ⟨S_, .f32⟩
  | .hbm, ⟨78, _⟩ => ⟨S1x1x128, .f32⟩
  | .hbm, ⟨79, _⟩ => ⟨S1x1x128, .f32⟩
  | .hbm, ⟨80, _⟩ => ⟨S1024x200x128, .f32⟩
  | .hbm, ⟨81, _⟩ => ⟨S1024x200x128, .f32⟩
  | .hbm, ⟨82, _⟩ => ⟨S_, .f32⟩
  | .hbm, ⟨83, _⟩ => ⟨S_, .f32⟩
  | .hbm, ⟨84, _⟩ => ⟨S1024x200x128, .f32⟩
  | .hbm, ⟨85, _⟩ => ⟨S_, .f32⟩
  | .hbm, ⟨86, _⟩ => ⟨S1024x128, .f32⟩
  | .hbm, ⟨87, _⟩ => ⟨S_, .f32⟩
  | .hbm, ⟨88, _⟩ => ⟨S1024x128, .f32⟩
  | .hbm, ⟨89, _⟩ => ⟨S1024x128, .f32⟩
  | _, _ => ⟨S1024x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1_0 : Ref sig .tc := ⟨.hbm, 11, rfl⟩
abbrev main_v5 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_cst : Ref sig .tc := ⟨.hbm, 32, rfl⟩
abbrev main_call1_v14 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_cst : Ref sig .tc := ⟨.hbm, 56, rfl⟩
abbrev main_call2_v14 : Ref sig .tc := ⟨.hbm, 57, rfl⟩
abbrev main_v9 : Ref sig .tc := ⟨.hbm, 58, rfl⟩
abbrev main_call3_call0_cst : Ref sig .tc := ⟨.hbm, 59, rfl⟩
abbrev main_call3_call0_v0 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_cst_0 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_cst_1 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_cst_2 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_cst_3 : Ref sig .tc := ⟨.hbm, 82, rfl⟩
abbrev main_v28 : Ref sig .tc := ⟨.hbm, 83, rfl⟩
abbrev main_v29 : Ref sig .tc := ⟨.hbm, 84, rfl⟩
abbrev main_cst_4 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩

abbrev nD : Nat := 1
abbrev τ : Topo := Topo.v7x

variable {F : FTy → Type} [FloatOps F]
-- ==== Proof.Stage.lean ====
/- The kernel's sorting network as a chain of stages. A stage takes the two arrays it carries (keys and
   weights) to the next two; it is stated here once for any distance, in the two forms in which the kernel
   writes it. The printed values between two stages are then the ones of the chain. -/
module

public import proofs.«01_k».proof.Proof.Gen.KernelIdeal.Frame

@[expose] public section

noncomputable section

namespace Cert.KernelIdeal.Sort

open Idealize.ShloMosaic Idealize.SL.Sem Cert.KernelIdeal.Gen

variable {F : FTy → Type} [FloatOps F] [Named F]

/-- `g` blocks of `b` runs of `n` rows. -/
abbrev B4 (g b n : Nat) : Shape := ⟨4, ![g, b, n, 128]⟩
/-- `g` blocks of `n` rows. -/
abbrev B3 (g n : Nat) : Shape := ⟨3, ![g, n, 128]⟩
/-- `n` rows. -/
abbrev B2 (n : Nat) : Shape := ⟨2, ![n, 128]⟩

/-- The 1024 rows are `g` blocks of two runs of `n` rows. -/
structure Cut (g n : Nat) : Prop where
  rows : g * (2 * n) = 1024
  split : S1024x128.ShapeCasts (B4 g 2 n)
  glue : (B4 g 2 n).ShapeCasts S1024x128
  drop : (B4 g 1 n).ShapeCasts (B3 g n)
  add : (B3 g n).ShapeCasts (B4 g 1 n)
  cat : Shape.Concatenates [B4 g 1 n, B4 g 1 n] (B4 g 2 n) 1
  lo : (B4 g 2 n).Slices ![0, 0, 0, 0] (B4 g 1 n)
  hi : (B4 g 2 n).Slices ![0, 1, 0, 0] (B4 g 1 n)

theorem cut32 : Cut 16 32 := ⟨rfl, by decide, by decide, by decide, by decide, by decide, by decide, by decide⟩
theorem cut64 : Cut 8 64 := ⟨rfl, by decide, by decide, by decide, by decide, by decide, by decide, by decide⟩
theorem cut128 : Cut 4 128 := ⟨rfl, by decide, by decide, by decide, by decide, by decide, by decide, by decide⟩
theorem cut8 : Cut 64 8 := ⟨rfl, by decide, by decide, by decide, by decide, by decide, by decide, by decide⟩
theorem cut16 : Cut 32 16 := ⟨rfl, by decide, by decide, by decide, by decide, by decide, by decide, by decide⟩

/-- The first `n` rows rotated against the other `m`. -/
structure Rot (n m : Nat) : Prop where
  rows : n + m = 1024
  le : n ≤ m
  catDown : Shape.Concatenates [B2 n, B2 m] S1024x128 0
  catUp : Shape.Concatenates [B2 m, B2 n] S1024x128 0
  sDown₁ : S1024x128.Slices ![m, 0] (B2 n)
  sDown₂ : S1024x128.Slices ![0, 0] (B2 m)
  sUp₁ : S1024x128.Slices ![n, 0] (B2 m)
  sUp₂ : S1024x128.Slices ![0, 0] (B2 n)

theorem rot1 : Rot 1 1023 := ⟨rfl, by decide, by decide, by decide, by decide, by decide, by decide, by decide⟩
theorem rot2 : Rot 2 1022 := ⟨rfl, by decide, by decide, by decide, by decide, by decide, by decide, by decide⟩
theorem rot4 : Rot 4 1020 := ⟨rfl, by decide, by decide, by decide, by decide, by decide, by decide, by decide⟩

section pieces
variable {α : Type} {g n : Nat} (c : Cut g n)

/-- The array as blocks of two runs. -/
def cutUp (_ : Cut g n) (x : S1024x128.Idx → α) : (B4 g 2 n).Idx → α := shapeCast (B4 g 2 n) x c.split
/-- The first run of each block, before its unit axis is dropped. -/
def loU (x : S1024x128.Idx → α) : (B4 g 1 n).Idx → α := extractStridedSlice (B4 g 1 n) ![0, 0, 0, 0] (cutUp c c x) c.lo
/-- The second run of each block, before its unit axis is dropped. -/
def hiU (x : S1024x128.Idx → α) : (B4 g 1 n).Idx → α := extractStridedSlice (B4 g 1 n) ![0, 1, 0, 0] (cutUp c c x) c.hi
/-- The first run of each block. -/
def lo (x : S1024x128.Idx → α) : (B3 g n).Idx → α := shapeCast (B3 g n) (loU c x) c.drop
/-- The second run of each block. -/
def hi (x : S1024x128.Idx → α) : (B3 g n).Idx → α := shapeCast (B3 g n) (hiU c x) c.drop
/-- The array of the two runs of every block. -/
def join (a b : (B3 g n).Idx → α) : S1024x128.Idx → α :=
  shapeCast S1024x128 (concatenate (B4 g 2 n) 1 [⟨B4 g 1 n, shapeCast (B4 g 1 n) a c.add⟩,
    ⟨B4 g 1 n, shapeCast (B4 g 1 n) b c.add⟩] c.cat) c.glue
/-- The two runs of every block exchanged where `s` is clear. -/
def exch (s : IVec (B3 g n) 1) (x : S1024x128.Idx → α) : S1024x128.Idx → α :=
  join c (select s (lo c x) (hi c x)) (select s (hi c x) (lo c x))

end pieces

/-- The keys and the weights. -/
abbrev St (F : FTy → Type) [FloatOps F] := FVec F S1024x128 .f32 × FVec F S1024x128 .f32

/-- The first run's key is at most the second's. -/
def leq {g n : Nat} (c : Cut g n) (k : FVec F S1024x128 .f32) : IVec (B3 g n) 1 := cmpf .ole (lo c k) (hi c k)

/-- Where bit `w` of a row's position is set. -/
def setB {s : Shape} (x : IVec s 32) (w : BitVec 32) : IVec s 1 := cmpi .ne (andi x (broadcast s w)) (broadcast s 0#32)

/-- Where the pair stays as it is. -/
def stay {g n : Nat} (c : Cut g n) (w : Option (BitVec 32)) (k : FVec F S1024x128 .f32) : IVec (B3 g n) 1 :=
  match w with
  | none => leq c k
  | some w => xori (leq c k) (setB (lo c k0_pay2) w)

/-- The first runs after a stage, of an array `x` carried beside the keys `k`. -/
def pickLo {g n : Nat} (c : Cut g n) (w : Option (BitVec 32)) (k x : FVec F S1024x128 .f32) : FVec F (B3 g n) .f32 :=
  select (stay c w k) (lo c x) (hi c x)
/-- The second runs after a stage. -/
def pickHi {g n : Nat} (c : Cut g n) (w : Option (BitVec 32)) (k x : FVec F S1024x128 .f32) : FVec F (B3 g n) .f32 :=
  select (stay c w k) (hi c x) (lo c x)
/-- The first runs after a stage, a unit axis added. -/
def pickLoU {g n : Nat} (c : Cut g n) (w : Option (BitVec 32)) (k x : FVec F S1024x128 .f32) : FVec F (B4 g 1 n) .f32 :=
  shapeCast (B4 g 1 n) (pickLo c w k x) c.add

/-- The second runs after a stage, a unit axis added. -/
def pickHiU {g n : Nat} (c : Cut g n) (w : Option (BitVec 32)) (k x : FVec F S1024x128 .f32) : FVec F (B4 g 1 n) .f32 :=
  shapeCast (B4 g 1 n) (pickHi c w k x) c.add
/-- The blocks after a stage. -/
def catB {g n : Nat} (c : Cut g n) (w : Option (BitVec 32)) (k x : FVec F S1024x128 .f32) : FVec F (B4 g 2 n) .f32 :=
  concatenate (B4 g 2 n) 1 [⟨B4 g 1 n, pickLoU c w k x⟩, ⟨B4 g 1 n, pickHiU c w k x⟩] c.cat

/-- A stage written through blocks. -/
def blk {g n : Nat} (c : Cut g n) (w : Option (BitVec 32)) (s : St F) : St F :=
  (exch c (stay c w s.1) s.1, exch c (stay c w s.1) s.2)

section turned
variable {α : Type} {n m : Nat} (r : Rot n m)

/-- The array turned down by `n` rows. -/
def rolD (x : S1024x128.Idx → α) : S1024x128.Idx → α :=
  concatenate S1024x128 0 [⟨B2 n, extractStridedSlice (B2 n) ![m, 0] x r.sDown₁⟩,
    ⟨B2 m, extractStridedSlice (B2 m) ![0, 0] x r.sDown₂⟩] r.catDown
/-- All but the first `n` rows. -/
def rolRest (x : S1024x128.Idx → α) : (B2 m).Idx → α := extractStridedSlice (B2 m) ![n, 0] x r.sUp₁
/-- The array turned up by `n` rows. -/
def rolU (x : S1024x128.Idx → α) : S1024x128.Idx → α :=
  concatenate S1024x128 0 [⟨B2 m, rolRest r x⟩, ⟨B2 n, extractStridedSlice (B2 n) ![0, 0] x r.sUp₂⟩] r.catUp
/-- The array whose row is the row's partner at distance `n`. -/
def mate (w : BitVec 32) (x : S1024x128.Idx → α) : S1024x128.Idx → α := select (setB k0_pay2 w) (rolD r x) (rolU r x)

end turned

/-- Where the row takes the smaller of the two keys. -/
def least (j : BitVec 32) (w : Option (BitVec 32)) : IVec S1024x128 1 :=
  xori (setB k0_pay2 j) (match w with
    | none => constantI S1024x128 1 1#1
    | some w => cmpi .eq (andi k0_pay2 (broadcast S1024x128 w)) (broadcast S1024x128 0#32))

/-- Where the row keeps its key. -/
def keeps {n m : Nat} (r : Rot n m) (j : BitVec 32) (w : Option (BitVec 32)) (k : FVec F S1024x128 .f32) : IVec S1024x128 1 :=
  ori (andi (least j w) (cmpf .ole k (mate r j k)))
    (andi (xori (least j w) (constantI S1024x128 1 1#1)) (xori (cmpf .olt k (mate r j k)) (constantI S1024x128 1 1#1)))

/-- The two ways to keep, apart: as the smaller, or as the greater. -/
def keepLe {n m : Nat} (r : Rot n m) (j : BitVec 32) (w : Option (BitVec 32)) (k : FVec F S1024x128 .f32) : IVec S1024x128 1 :=
  andi (least j w) (cmpf .ole k (mate r j k))
def keepGe {n m : Nat} (r : Rot n m) (j : BitVec 32) (w : Option (BitVec 32)) (k : FVec F S1024x128 .f32) : IVec S1024x128 1 :=
  andi (xori (least j w) (constantI S1024x128 1 1#1)) (xori (cmpf .olt k (mate r j k)) (constantI S1024x128 1 1#1))

/-- A stage written through rotations. -/
def rol {n m : Nat} (r : Rot n m) (j : BitVec 32) (w : Option (BitVec 32)) (s : St F) : St F :=
  (select (keeps r j w s.1) s.1 (mate r j s.1), select (keeps r j w s.1) s.2 (mate r j s.2))

/-- The keys a block starts from: each example's inner products, then the padding. -/
def key0 (x0 : Vec F S800x64 .f32) (x2 : Vec F S64x128 .f32) : FVec F S1024x128 .f32 :=
  have v19 : FVec F S800x128 .f32 := matmul dot_S800x64_S64x128_S800x128_1_0_0_1_n_n (some .fp32)
    (shapeCast S800x64 x0 shapeCasts_S800x64_S800x64) (shapeCast S64x128 x2 shapeCasts_S64x128_S64x128)
    (constant S800x128 .f32 0x00000000#32)
  have v20 : FVec F S56x128 .f32 := broadcast S56x128 (Named.named κ "pad" 0x7149F2CA#32)
  concatenate S1024x128 0 [⟨S200x128, extractStridedSlice S200x128 ![0, 0] v19 slices_S800x128_o0_0_S200x128⟩, ⟨S56x128, v20⟩,
    ⟨S200x128, extractStridedSlice S200x128 ![200, 0] v19 slices_S800x128_o200_0_S200x128⟩, ⟨S56x128, v20⟩,
    ⟨S200x128, extractStridedSlice S200x128 ![400, 0] v19 slices_S800x128_o400_0_S200x128⟩, ⟨S56x128, v20⟩,
    ⟨S200x128, extractStridedSlice S200x128 ![600, 0] v19 slices_S800x128_o600_0_S200x128⟩, ⟨S56x128, v20⟩]
    concatenates_S200x128_S56x128_S200x128_S56x128_S200x128_S56x128_S200x128_S56x128_S1024x128_d0

/-- The weights a block starts from. -/
def val0 (x1 : Vec F S1024x1 .f32) : FVec F S1024x128 .f32 :=
  broadcastTo S1024x128 (shapeCast S1024x1 (shapeCast S1024x1 x1 shapeCasts_S1024x1_S1024x1) shapeCasts_S1024x1_S1024x1)
    broadcasts_S1024x1_S1024x128

/-- The arrays a block starts from. -/
def st0 (x0 : Vec F S800x64 .f32) (x1 : Vec F S1024x1 .f32) (x2 : Vec F S64x128 .f32) : St F :=
  (key0 (View.ld x0 r0_0) (View.ld x2 r0_1), val0 (View.ld x1 r0_2))

/-! The stages by their distance. -/

def s32 (w : Option (BitVec 32)) (s : St F) : St F := blk cut32 w s
def s64 (w : Option (BitVec 32)) (s : St F) : St F := blk cut64 w s
def s128 (w : Option (BitVec 32)) (s : St F) : St F := blk cut128 w s
def s8 (w : Option (BitVec 32)) (s : St F) : St F := blk cut8 w s
def s16 (w : Option (BitVec 32)) (s : St F) : St F := blk cut16 w s
def s1 (w : Option (BitVec 32)) (s : St F) : St F := rol rot1 1#32 w s
def s2 (w : Option (BitVec 32)) (s : St F) : St F := rol rot2 2#32 w s
def s4 (w : Option (BitVec 32)) (s : St F) : St F := rol rot4 4#32 w s

variable (s : St F) (x0 : Vec F S800x64 .f32) (x1 : Vec F S1024x1 .f32) (x2 : Vec F S64x128 .f32)

attribute [local irreducible] shapeCast select concatenate extractStridedSlice cmpf andi xori ori cmpi broadcast constantI

/-! What the printed values are. -/

theorem e7 : k0_pay7 (View.ld x0 r0_0) (View.ld x2 r0_1)
    = (s32 (some 64#32) (st0 x0 x1 x2)).1 := rfl
theorem e8 : k0_pay8 (View.ld x0 r0_0) (View.ld x2 r0_1) (View.ld x1 r0_2)
    = catB cut32 (some 64#32) (st0 x0 x1 x2).1 (st0 x0 x1 x2).2 := rfl
theorem e20 : k0_pay20 k0_pay2 s.1
    = pickHi cut32 (some 128#32) (s64 (some 128#32) s).1 (s64 (some 128#32) s).1 := rfl
theorem e21 : k0_pay21 k0_pay2 ((s32 (some 64#32) s).1) (catB cut32 (some 64#32) s.1 s.2)
    = pickLo cut32 (some 128#32) (s64 (some 128#32) (s32 (some 64#32) s)).1 (s64 (some 128#32) (s32 (some 64#32) s)).2 := rfl
theorem e22 : k0_pay22 k0_pay2 ((s32 (some 64#32) s).1) (catB cut32 (some 64#32) s.1 s.2)
    = pickHi cut32 (some 128#32) (s64 (some 128#32) (s32 (some 64#32) s)).1 (s64 (some 128#32) (s32 (some 64#32) s)).2 := rfl
theorem e23 : k0_pay23 k0_pay2 s.1
    = pickLoU cut32 (some 128#32) (s64 (some 128#32) s).1 (s64 (some 128#32) s).1 := rfl
theorem e30 : k0_pay30 k0_pay2 (pickHi cut32 (some 128#32) s.1 s.1) (pickLoU cut32 (some 128#32) s.1 s.1)
    = lo cut64 (s128 (some 8#32) (s32 (some 128#32) s)).1 := rfl
theorem e31 : k0_pay31 k0_pay2 (pickHi cut32 (some 128#32) s.1 s.1) (pickLoU cut32 (some 128#32) s.1 s.1)
    = hi cut64 (s128 (some 8#32) (s32 (some 128#32) s)).1 := rfl
theorem e32 : k0_pay32 k0_pay2 (pickHi cut32 (some 128#32) s.1 s.1) (pickLo cut32 (some 128#32) s.1 s.2) (pickHi cut32 (some 128#32) s.1 s.2) (pickLoU cut32 (some 128#32) s.1 s.1)
    = lo cut64 (s128 (some 8#32) (s32 (some 128#32) s)).2 := rfl
theorem e33 : k0_pay33 k0_pay2 (pickHi cut32 (some 128#32) s.1 s.1) (pickLo cut32 (some 128#32) s.1 s.2) (pickHi cut32 (some 128#32) s.1 s.2) (pickLoU cut32 (some 128#32) s.1 s.1)
    = hi cut64 (s128 (some 8#32) (s32 (some 128#32) s)).2 := rfl
theorem e34 : k0_pay34 k0_pay2 (pickHi cut32 (some 128#32) s.1 s.1) (pickLoU cut32 (some 128#32) s.1 s.1)
    = leq cut64 (s128 (some 8#32) (s32 (some 128#32) s)).1 := rfl
theorem e35 : k0_pay35 k0_pay2
    = setB (lo cut64 k0_pay2) 8#32 := rfl
theorem e43 : k0_pay43 k0_pay2 (lo cut64 s.1) (hi cut64 s.1) (leq cut64 s.1) (setB (lo cut64 k0_pay2) 8#32)
    = lo cut8 (s32 (some 8#32) (s64 (some 8#32) s)).1 := rfl
theorem e44 : k0_pay44 k0_pay2 (lo cut64 s.1) (hi cut64 s.1) (leq cut64 s.1) (setB (lo cut64 k0_pay2) 8#32)
    = hi cut8 (s32 (some 8#32) (s64 (some 8#32) s)).1 := rfl
theorem e45 : k0_pay45 k0_pay2 (lo cut64 s.1) (hi cut64 s.1) (lo cut64 s.2) (hi cut64 s.2) (leq cut64 s.1) (setB (lo cut64 k0_pay2) 8#32)
    = lo cut8 (s32 (some 8#32) (s64 (some 8#32) s)).2 := rfl
theorem e46 : k0_pay46 k0_pay2 (lo cut64 s.1) (hi cut64 s.1) (lo cut64 s.2) (hi cut64 s.2) (leq cut64 s.1) (setB (lo cut64 k0_pay2) 8#32)
    = hi cut8 (s32 (some 8#32) (s64 (some 8#32) s)).2 := rfl
theorem e47 : k0_pay47 k0_pay2 (lo cut64 s.1) (hi cut64 s.1) (leq cut64 s.1) (setB (lo cut64 k0_pay2) 8#32)
    = leq cut8 (s32 (some 8#32) (s64 (some 8#32) s)).1 := rfl
theorem e48 : k0_pay48 k0_pay2
    = lo cut8 k0_pay2 := rfl
theorem e55 : k0_pay55 k0_pay2 (lo cut8 s.1) (hi cut8 s.1) (lo cut8 s.2) (hi cut8 s.2) (leq cut8 s.1) (lo cut8 k0_pay2)
    = cutUp cut64 cut64 (s128 (some 16#32) (s8 (some 16#32) s)).2 := rfl
theorem e56 : k0_pay56 k0_pay2 (lo cut8 s.1) (hi cut8 s.1) (leq cut8 s.1) (lo cut8 k0_pay2)
    = lo cut64 (s128 (some 16#32) (s8 (some 16#32) s)).1 := rfl
theorem e57 : k0_pay57 k0_pay2 (lo cut8 s.1) (hi cut8 s.1) (leq cut8 s.1) (lo cut8 k0_pay2)
    = hi cut64 (s128 (some 16#32) (s8 (some 16#32) s)).1 := rfl
theorem e58 : k0_pay58 k0_pay2 (lo cut8 s.1) (hi cut8 s.1) (lo cut8 s.2) (hi cut8 s.2) (leq cut8 s.1) (lo cut8 k0_pay2)
    = lo cut64 (s128 (some 16#32) (s8 (some 16#32) s)).2 := rfl
theorem e64 : k0_pay64 k0_pay2 (lo cut64 s.1) (hi cut64 s.1)
    = cutUp cut16 cut16 (s32 (some 16#32) (s64 (some 16#32) s)).1 := rfl
theorem e65 : k0_pay65 k0_pay2 (cutUp cut64 cut64 s.2) (lo cut64 s.1) (hi cut64 s.1) (lo cut64 s.2)
    = cutUp cut16 cut16 (s32 (some 16#32) (s64 (some 16#32) s)).2 := rfl
theorem e76 : k0_pay76 k0_pay2 (cutUp cut16 cut16 s.1) (cutUp cut16 cut16 s.2)
    = pickLo cut8 (some 1#32) (s16 (some 1#32) s).1 (s16 (some 1#32) s).2 := rfl
theorem e77 : k0_pay77 k0_pay2 (cutUp cut16 cut16 s.1) (cutUp cut16 cut16 s.2)
    = pickHi cut8 (some 1#32) (s16 (some 1#32) s).1 (s16 (some 1#32) s).2 := rfl
theorem e78 : k0_pay78 k0_pay2 (cutUp cut16 cut16 s.1)
    = (s8 (some 1#32) (s16 (some 1#32) s)).1 := rfl
theorem e87 : k0_pay87 k0_pay2 (pickLo cut8 (some 1#32) s.1 s.2) (pickHi cut8 (some 1#32) s.1 s.2) ((s8 (some 1#32) s).1)
    = lo cut64 (s128 (some 1#32) (s8 (some 1#32) s)).2 := rfl
theorem e88 : k0_pay88 k0_pay2 (pickLo cut8 (some 1#32) s.1 s.2) (pickHi cut8 (some 1#32) s.1 s.2) ((s8 (some 1#32) s).1)
    = hi cut64 (s128 (some 1#32) (s8 (some 1#32) s)).2 := rfl
theorem e89 : k0_pay89 k0_pay2 s.1
    = stay cut64 (some 1#32) (s128 (some 1#32) s).1 := rfl
theorem e90 : k0_pay90 k0_pay2 s.1
    = pickLo cut64 (some 1#32) (s128 (some 1#32) s).1 (s128 (some 1#32) s).1 := rfl
theorem e91 : k0_pay91 k0_pay2 s.1
    = pickHi cut64 (some 1#32) (s128 (some 1#32) s).1 (s128 (some 1#32) s).1 := rfl
theorem e96 : k0_pay96 k0_pay2 (pickLo cut64 (some 1#32) s.1 s.1) (pickHi cut64 (some 1#32) s.1 s.1)
    = (s32 (some 1#32) (s64 (some 1#32) s)).1 := rfl
theorem e97 : k0_pay97 k0_pay2 (lo cut64 s.2) (hi cut64 s.2) (stay cut64 (some 1#32) s.1) (pickLo cut64 (some 1#32) s.1 s.1) (pickHi cut64 (some 1#32) s.1 s.1)
    = (s32 (some 1#32) (s64 (some 1#32) s)).2 := rfl
theorem e98 : k0_pay98 k0_pay2
    = setB k0_pay2 1#32 := rfl
theorem e99 : k0_pay99 k0_pay2 (pickLo cut64 (some 1#32) s.1 s.1) (pickHi cut64 (some 1#32) s.1 s.1)
    = mate rot1 1#32 (s32 (some 1#32) (s64 (some 1#32) s)).1 := rfl
theorem e100 : k0_pay100 k0_pay2 (lo cut64 s.2) (hi cut64 s.2) (stay cut64 (some 1#32) s.1) (pickLo cut64 (some 1#32) s.1 s.1) (pickHi cut64 (some 1#32) s.1 s.1)
    = rolD rot1 (s32 (some 1#32) (s64 (some 1#32) s)).2 := rfl
theorem e101 : k0_pay101 k0_pay2 (lo cut64 s.2) (hi cut64 s.2) (stay cut64 (some 1#32) s.1) (pickLo cut64 (some 1#32) s.1 s.1) (pickHi cut64 (some 1#32) s.1 s.1)
    = rolRest rot1 (s32 (some 1#32) (s64 (some 1#32) s)).2 := rfl
theorem e108 : k0_pay108 k0_pay2 s.1 s.2 (setB k0_pay2 1#32) (mate rot1 1#32 s.1) (rolD rot1 s.2) (rolRest rot1 s.2)
    = cutUp cut8 cut8 (s16 (some 2#32) (s1 (some 2#32) s)).2 := rfl
theorem e109 : k0_pay109 k0_pay2 s.1 (setB k0_pay2 1#32) (mate rot1 1#32 s.1)
    = lo cut8 (s16 (some 2#32) (s1 (some 2#32) s)).1 := rfl
theorem e110 : k0_pay110 k0_pay2 s.1 (setB k0_pay2 1#32) (mate rot1 1#32 s.1)
    = hi cut8 (s16 (some 2#32) (s1 (some 2#32) s)).1 := rfl
theorem e116 : k0_pay116 k0_pay2 (lo cut8 s.1) (hi cut8 s.1)
    = (s128 (some 2#32) (s8 (some 2#32) s)).1 := rfl
theorem e117 : k0_pay117 k0_pay2 (cutUp cut8 cut8 s.2) (lo cut8 s.1) (hi cut8 s.1)
    = (s128 (some 2#32) (s8 (some 2#32) s)).2 := rfl
theorem e129 : k0_pay129 k0_pay2 s.1 s.2
    = pickLo cut32 (some 2#32) (s64 (some 2#32) s).1 (s64 (some 2#32) s).2 := rfl
theorem e130 : k0_pay130 k0_pay2 s.1 s.2
    = pickHi cut32 (some 2#32) (s64 (some 2#32) s).1 (s64 (some 2#32) s).2 := rfl
theorem e131 : k0_pay131 k0_pay2 s.1
    = pickLoU cut32 (some 2#32) (s64 (some 2#32) s).1 (s64 (some 2#32) s).1 := rfl
theorem e132 : k0_pay132 k0_pay2 s.1
    = pickHiU cut32 (some 2#32) (s64 (some 2#32) s).1 (s64 (some 2#32) s).1 := rfl
theorem e137 : k0_pay137 k0_pay2 (pickLoU cut32 (some 2#32) s.1 s.1) (pickHiU cut32 (some 2#32) s.1 s.1)
    = (s2 (some 4#32) (s32 (some 2#32) s)).1 := rfl
theorem e138 : k0_pay138 k0_pay2 (pickLo cut32 (some 2#32) s.1 s.2) (pickHi cut32 (some 2#32) s.1 s.2) (pickLoU cut32 (some 2#32) s.1 s.1) (pickHiU cut32 (some 2#32) s.1 s.1)
    = (s2 (some 4#32) (s32 (some 2#32) s)).2 := rfl
theorem e139 : k0_pay139 k0_pay2
    = setB k0_pay2 1#32 := rfl
theorem e140 : k0_pay140 k0_pay2 (pickLoU cut32 (some 2#32) s.1 s.1) (pickHiU cut32 (some 2#32) s.1 s.1)
    = mate rot1 1#32 (s2 (some 4#32) (s32 (some 2#32) s)).1 := rfl
theorem e141 : k0_pay141 k0_pay2 (pickLo cut32 (some 2#32) s.1 s.2) (pickHi cut32 (some 2#32) s.1 s.2) (pickLoU cut32 (some 2#32) s.1 s.1) (pickHiU cut32 (some 2#32) s.1 s.1)
    = rolD rot1 (s2 (some 4#32) (s32 (some 2#32) s)).2 := rfl
theorem e148 : k0_pay148 k0_pay2 s.1 s.2 (setB k0_pay2 1#32) (mate rot1 1#32 s.1) (rolD rot1 s.2)
    = cutUp cut8 cut8 (s16 (some 4#32) (s1 (some 4#32) s)).2 := rfl
theorem e149 : k0_pay149 k0_pay2 s.1 (setB k0_pay2 1#32) (mate rot1 1#32 s.1)
    = lo cut8 (s16 (some 4#32) (s1 (some 4#32) s)).1 := rfl
theorem e150 : k0_pay150 k0_pay2 s.1 (setB k0_pay2 1#32) (mate rot1 1#32 s.1)
    = hiU cut8 (s16 (some 4#32) (s1 (some 4#32) s)).1 := rfl
theorem e157 : k0_pay157 k0_pay2 (lo cut8 s.1) (hiU cut8 s.1)
    = (s128 (some 4#32) (s8 (some 4#32) s)).1 := rfl
theorem e158 : k0_pay158 k0_pay2 (cutUp cut8 cut8 s.2) (lo cut8 s.1) (hiU cut8 s.1)
    = catB cut128 (some 4#32) (s8 (some 4#32) s).1 (s8 (some 4#32) s).2 := rfl
theorem e170 : k0_pay170 k0_pay2 s.1
    = pickHi cut32 (some 4#32) (s64 (some 4#32) s).1 (s64 (some 4#32) s).1 := rfl
theorem e171 : k0_pay171 k0_pay2 ((s128 (some 4#32) s).1) (catB cut128 (some 4#32) s.1 s.2)
    = pickLo cut32 (some 4#32) (s64 (some 4#32) (s128 (some 4#32) s)).1 (s64 (some 4#32) (s128 (some 4#32) s)).2 := rfl
theorem e172 : k0_pay172 k0_pay2 ((s128 (some 4#32) s).1) (catB cut128 (some 4#32) s.1 s.2)
    = pickHi cut32 (some 4#32) (s64 (some 4#32) (s128 (some 4#32) s)).1 (s64 (some 4#32) (s128 (some 4#32) s)).2 := rfl
theorem e173 : k0_pay173 k0_pay2 s.1
    = pickLoU cut32 (some 4#32) (s64 (some 4#32) s).1 (s64 (some 4#32) s).1 := rfl
theorem e178 : k0_pay178 k0_pay2 (pickHi cut32 (some 4#32) s.1 s.1) (pickLoU cut32 (some 4#32) s.1 s.1)
    = (s4 none (s32 (some 4#32) s)).1 := rfl
theorem e179 : k0_pay179 k0_pay2 (pickHi cut32 (some 4#32) s.1 s.1) (pickLo cut32 (some 4#32) s.1 s.2) (pickHi cut32 (some 4#32) s.1 s.2) (pickLoU cut32 (some 4#32) s.1 s.1)
    = (s4 none (s32 (some 4#32) s)).2 := rfl
theorem e180 : k0_pay180 k0_pay2
    = setB k0_pay2 2#32 := rfl
theorem e181 : k0_pay181 k0_pay2 (pickHi cut32 (some 4#32) s.1 s.1) (pickLoU cut32 (some 4#32) s.1 s.1)
    = mate rot2 2#32 (s4 none (s32 (some 4#32) s)).1 := rfl
theorem e182 : k0_pay182 k0_pay2 (pickHi cut32 (some 4#32) s.1 s.1) (pickLo cut32 (some 4#32) s.1 s.2) (pickHi cut32 (some 4#32) s.1 s.2) (pickLoU cut32 (some 4#32) s.1 s.1)
    = mate rot2 2#32 (s4 none (s32 (some 4#32) s)).2 := rfl
theorem e192 : k0_pay192 k0_pay2 s.1 s.2 (setB k0_pay2 2#32) (mate rot2 2#32 s.1) (mate rot2 2#32 s.2)
    = lo cut16 (s1 none (s2 none s)).2 := rfl
theorem e193 : k0_pay193 k0_pay2 s.1 s.2 (setB k0_pay2 2#32) (mate rot2 2#32 s.1) (mate rot2 2#32 s.2)
    = hi cut16 (s1 none (s2 none s)).2 := rfl
theorem e194 : k0_pay194 k0_pay2 s.1 (setB k0_pay2 2#32) (mate rot2 2#32 s.1)
    = stay cut16 none (s1 none (s2 none s)).1 := rfl
theorem e195 : k0_pay195 k0_pay2 s.1 (setB k0_pay2 2#32) (mate rot2 2#32 s.1)
    = pickLo cut16 none (s1 none (s2 none s)).1 (s1 none (s2 none s)).1 := rfl
theorem e196 : k0_pay196 k0_pay2 s.1 (setB k0_pay2 2#32) (mate rot2 2#32 s.1)
    = pickHi cut16 none (s1 none (s2 none s)).1 (s1 none (s2 none s)).1 := rfl
theorem e197 : k0_pay197 k0_pay2 s.1 s.2 (setB k0_pay2 2#32) (mate rot2 2#32 s.1) (mate rot2 2#32 s.2)
    = pickLo cut16 none (s1 none (s2 none s)).1 (s1 none (s2 none s)).2 := rfl
theorem e207 : k0_pay207 (lo cut16 s.2) (hi cut16 s.2) (stay cut16 none s.1) (pickLo cut16 none s.1 s.1) (pickHi cut16 none s.1 s.1) (pickLo cut16 none s.1 s.2)
    = cutUp cut64 cut64 (s128 none (s8 none (s16 none s))).2 := rfl
theorem e208 : k0_pay208 (pickLo cut16 none s.1 s.1) (pickHi cut16 none s.1 s.1)
    = lo cut64 (s128 none (s8 none (s16 none s))).1 := rfl
theorem e209 : k0_pay209 (pickLo cut16 none s.1 s.1) (pickHi cut16 none s.1 s.1)
    = hiU cut64 (s128 none (s8 none (s16 none s))).1 := rfl
theorem e216 : k0_pay216 (lo cut64 s.1) (hiU cut64 s.1)
    = (s32 none (s64 none s)).1 := rfl
theorem e217 : k0_pay217 (cutUp cut64 cut64 s.2) (lo cut64 s.1) (hiU cut64 s.1)
    = (s32 none (s64 none s)).2 := rfl

variable (x3 : Vec F S512x256 .f32) (x4 : Vec F S4x1024 .f32) (x5 x6 : Vec F S1x128 .f32)

/-- The arrays a block's network ends with. -/
def sorted (s : St F) : St F :=
  (s32 none (s64 none (s128 none (s8 none (s16 none (s1 none (s2 none (s4 none (s32 (some 4#32) (s64 (some 4#32) (s128 (some 4#32) (s8 (some 4#32) (s16 (some 4#32) (s1 (some 4#32) (s2 (some 4#32) (s32 (some 2#32) (s64 (some 2#32) (s128 (some 2#32) (s8 (some 2#32) (s16 (some 2#32) (s1 (some 2#32) (s32 (some 1#32) (s64 (some 1#32) (s128 (some 1#32) (s8 (some 1#32) (s16 (some 1#32) (s32 (some 16#32) (s64 (some 16#32) (s128 (some 16#32) (s8 (some 16#32) (s32 (some 8#32) (s64 (some 8#32) (s128 (some 8#32) (s32 (some 128#32) (s64 (some 128#32) (s32 (some 64#32) s))))))))))))))))))))))))))))))))))))

theorem sorted_key : k0_pay216 (k0_pay284 x0 x1 x2 x3 x4 x5 x6) (k0_pay285 x0 x1 x2 x3 x4 x5 x6)
    = (sorted (st0 x0 x1 x2)).1 := by
  simp only [k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285,
    e7 x0 x1 x2, e8 x0 x1 x2, e20, e21, e22, e23, e30, e31, e32, e33, e34, e35, e43, e44, e45, e46, e47, e48, e55, e56, e57, e58, e64, e65, e76, e77, e78, e87, e88, e89, e90, e91, e96, e97, e98, e99, e100, e101, e108, e109, e110, e116, e117, e129, e130, e131, e132, e137, e138, e139, e140, e141, e148, e149, e150, e157, e158, e170, e171, e172, e173, e178, e179, e180, e181, e182, e192, e193, e194, e195, e196, e197, e207, e208, e209, e216, e217, sorted]
theorem sorted_val : k0_pay217 (k0_pay207 (k0_pay192 (k0_pay224 x0 x1 x2 x3 x4 x5 x6) (k0_pay277 x0 x1 x2 x3 x4 x5 x6) (k0_pay278 x0 x1 x2 x3 x4 x5 x6) (k0_pay279 x0 x1 x2 x3 x4 x5 x6) (k0_pay280 x0 x1 x2 x3 x4 x5 x6) (k0_pay281 x0 x1 x2 x3 x4 x5 x6)) (k0_pay193 (k0_pay224 x0 x1 x2 x3 x4 x5 x6) (k0_pay277 x0 x1 x2 x3 x4 x5 x6) (k0_pay278 x0 x1 x2 x3 x4 x5 x6) (k0_pay279 x0 x1 x2 x3 x4 x5 x6) (k0_pay280 x0 x1 x2 x3 x4 x5 x6) (k0_pay281 x0 x1 x2 x3 x4 x5 x6)) (k0_pay194 (k0_pay224 x0 x1 x2 x3 x4 x5 x6) (k0_pay277 x0 x1 x2 x3 x4 x5 x6) (k0_pay279 x0 x1 x2 x3 x4 x5 x6) (k0_pay280 x0 x1 x2 x3 x4 x5 x6)) (k0_pay282 x0 x1 x2 x3 x4 x5 x6) (k0_pay283 x0 x1 x2 x3 x4 x5 x6) (k0_pay197 (k0_pay224 x0 x1 x2 x3 x4 x5 x6) (k0_pay277 x0 x1 x2 x3 x4 x5 x6) (k0_pay278 x0 x1 x2 x3 x4 x5 x6) (k0_pay279 x0 x1 x2 x3 x4 x5 x6) (k0_pay280 x0 x1 x2 x3 x4 x5 x6) (k0_pay281 x0 x1 x2 x3 x4 x5 x6))) (k0_pay284 x0 x1 x2 x3 x4 x5 x6) (k0_pay285 x0 x1 x2 x3 x4 x5 x6)
    = (sorted (st0 x0 x1 x2)).2 := by
  simp only [k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285,
    e7 x0 x1 x2, e8 x0 x1 x2, e20, e21, e22, e23, e30, e31, e32, e33, e34, e35, e43, e44, e45, e46, e47, e48, e55, e56, e57, e58, e64, e65, e76, e77, e78, e87, e88, e89, e90, e91, e96, e97, e98, e99, e100, e101, e108, e109, e110, e116, e117, e129, e130, e131, e132, e137, e138, e139, e140, e141, e148, e149, e150, e157, e158, e170, e171, e172, e173, e178, e179, e180, e181, e182, e192, e193, e194, e195, e196, e197, e207, e208, e209, e216, e217, sorted]

end Cert.KernelIdeal.Sort
-- ==== Proof.StageValue.lean ====
/- What one stage of the network does at a row, for both of its written forms: a row and its partner keep their
   entries or exchange them, keys and weights alike, and the smaller key goes where the direction bit says. -/
module

public import proofs.«01_k».proof.Proof.Stage
public import Idealize.ShloMosaic.Lib.Pointwise
public import Idealize.ShloMosaic.Lib.SortNet.Sorts

@[expose] public section

noncomputable section

namespace Cert.KernelIdeal.Sort

open Idealize.ShloMosaic Idealize.ShloMosaic.SortNet Idealize.SL.Sem Cert.KernelIdeal.Gen Idealize.ShloMosaic.Pointwise

/-- One lane of an array, by row. -/
abbrev lane {α : Type} (x : S1024x128.Idx → α) (q : Fin 128) (r : Fin (2 ^ 10)) : α := x (ix2 (n0 := 1024) r q)

section blocks
variable {α : Type} {g n : Nat} (c : Cut g n) (b : Fin g) (t : Fin n) (q : Fin 128) (x y : S1024x128.Idx → α)

include c in
theorem Cut.lt (h : Fin 2) : b.val * (2 * n) + h.val * n + t.val < 1024 := by
  have e := c.rows
  have hb := b.isLt; have ht := t.isLt; have hh := h.isLt
  have h1 : (b.val + 1) * (2 * n) ≤ g * (2 * n) := Nat.mul_le_mul_right _ hb
  have h2 : h.val * n ≤ 1 * n := Nat.mul_le_mul_right _ (by omega)
  rw [Nat.add_mul] at h1
  omega

/-- Row `t` of run `h` of block `b`. -/
def Cut.at {g n : Nat} (c : Cut g n) (b : Fin g) (t : Fin n) (h : Fin 2) : Fin 1024 := ⟨b.val * (2 * n) + h.val * n + t.val, c.lt b t h⟩

theorem cutUp_at (h : Fin 2) : cutUp c c x (ix4 b h t q) = x (ix2 (c.at b t h) q) :=
  shapeCast_apply _ _ _ _ (by
    rw [Shape.rowMajor_val_two, Shape.rowMajor_val_four]
    show (b.val * (2 * n) + h.val * n + t.val) * 128 + q.val = ((b.val * 2 + h.val) * n + t.val) * 128 + q.val
    ring)

theorem drop_at (z : (B4 g 1 n).Idx → α) : shapeCast (B3 g n) z c.drop (ix3 b t q) = z (ix4 b 0 t q) :=
  shapeCast_apply _ _ _ _ (by
    rw [Shape.rowMajor_val_three, Shape.rowMajor_val_four]
    show ((b.val * 1 + 0) * n + t.val) * 128 + q.val = (b.val * n + t.val) * 128 + q.val
    ring)

theorem lo_at : lo c x (ix3 b t q) = x (ix2 (c.at b t 0) q) := by
  rw [lo, drop_at c b t q, loU, ← cutUp_at c b t q x]
  exact extractStridedSlice_apply _ _ _ _ _ fun a => match a with
    | ⟨0, _⟩ => by show b.val = 0 + b.val; omega
    | ⟨1, _⟩ => rfl
    | ⟨2, _⟩ => by show t.val = 0 + t.val; omega
    | ⟨3, _⟩ => by show q.val = 0 + q.val; omega

theorem hi_at : hi c x (ix3 b t q) = x (ix2 (c.at b t 1) q) := by
  rw [hi, drop_at c b t q, hiU, ← cutUp_at c b t q x]
  exact extractStridedSlice_apply _ _ _ _ _ fun a => match a with
    | ⟨0, _⟩ => by show b.val = 0 + b.val; omega
    | ⟨1, _⟩ => rfl
    | ⟨2, _⟩ => by show t.val = 0 + t.val; omega
    | ⟨3, _⟩ => by show q.val = 0 + q.val; omega

theorem add_at (z : (B3 g n).Idx → α) : shapeCast (B4 g 1 n) z c.add (ix4 b 0 t q) = z (ix3 b t q) :=
  shapeCast_apply _ _ _ _ (by
    rw [Shape.rowMajor_val_three, Shape.rowMajor_val_four]
    show (b.val * n + t.val) * 128 + q.val = ((b.val * 1 + 0) * n + t.val) * 128 + q.val
    ring)

theorem glue_at (z : (B4 g 2 n).Idx → α) (h : Fin 2) : shapeCast S1024x128 z c.glue (ix2 (c.at b t h) q) = z (ix4 b h t q) :=
  shapeCast_apply _ _ _ _ (by
    rw [Shape.rowMajor_val_two, Shape.rowMajor_val_four]
    show ((b.val * 2 + h.val) * n + t.val) * 128 + q.val = (b.val * (2 * n) + h.val * n + t.val) * 128 + q.val
    ring)

theorem join_lo (u v : (B3 g n).Idx → α) : join c u v (ix2 (c.at b t 0) q) = u (ix3 b t q) := by
  rw [join, glue_at c b t q, ← add_at c b t q u]
  exact concatenate_pair_apply_left (t := B4 g 2 n) (s₁ := B4 g 1 n) (s₂ := B4 g 1 n) 1 _ _ c.cat (ix4 b 0 t q) rfl
    (ix4 b 0 t q) fun a => match a with
    | ⟨0, _⟩ => rfl | ⟨1, _⟩ => rfl | ⟨2, _⟩ => rfl | ⟨3, _⟩ => rfl

theorem join_hi (u v : (B3 g n).Idx → α) : join c u v (ix2 (c.at b t 1) q) = v (ix3 b t q) := by
  rw [join, glue_at c b t q, ← add_at c b t q v]
  exact concatenate_pair_apply_right (t := B4 g 2 n) (s₁ := B4 g 1 n) (s₂ := B4 g 1 n) 1 _ _ c.cat (ix4 b 1 t q) rfl rfl
    (ix4 b 0 t q) (fun a => match a with
    | ⟨0, _⟩ => fun _ => rfl | ⟨1, _⟩ => fun h => absurd rfl h | ⟨2, _⟩ => fun _ => rfl | ⟨3, _⟩ => fun _ => rfl) rfl

end blocks

/-- The word with one bit set, if one is asked for. -/
def word (w : Option (Fin 8)) : Option (BitVec 32) := w.map fun b => BitVec.ofNat 32 (2 ^ b.val)

/-- The direction a row is sorted in: against the order where the bit is set. -/
def down (w : Option (Fin 8)) (r : Nat) : Bool := match w with
  | none => false
  | some b => r.testBit b.val

theorem pos_at (r : Fin 1024) (q : Fin 128) : k0_pay2 (ix2 r q) = BitVec.ofNat 32 r.val &&& 255#32 := by
  pointwise [k0_pay2]
  rfl

theorem word_bit : ∀ (r : Fin 1024) (b : Fin 8),
    (BitVec.ofNat 32 r.val &&& 255#32 &&& BitVec.ofNat 32 (2 ^ b.val) != 0#32) = r.val.testBit b.val := by
  decide +kernel

theorem ofBool_one (b : Bool) : BitVec.ofBool b = 1#1 ↔ b = true := by cases b <;> decide

theorem setB_at {s : Shape} (x : IVec s 32) (w : BitVec 32) (j : s.Idx) : setB x w j = BitVec.ofBool (x j &&& w != 0#32) := rfl

theorem pos_bit (r : Fin 1024) (q : Fin 128) (b : Fin 8) :
    setB k0_pay2 (BitVec.ofNat 32 (2 ^ b.val)) (ix2 r q) = BitVec.ofBool (r.val.testBit b.val) := by
  rw [setB_at, pos_at, word_bit]

/-- What a stage does to the lane's keys `k` and weights `v`: a row with bit `a` clear and its partner keep their entries or
    exchange them, so that the row is left the smaller key, or the greater where its direction is down. -/
def Swap (a : Nat) (w : Option (Fin 8)) (k v k' v' : Fin (2 ^ 10) → EReal) : Prop :=
  ∀ r, r.val.testBit a = false →
    (k' r = k r ∧ v' r = v r ∧ k' (partner 10 a r) = k (partner 10 a r) ∧ v' (partner 10 a r) = v (partner 10 a r)
      ∨ k' r = k (partner 10 a r) ∧ v' r = v (partner 10 a r) ∧ k' (partner 10 a r) = k r ∧ v' (partner 10 a r) = v r)
    ∧ k' r = (if down w r then max (k r) (k (partner 10 a r)) else min (k r) (k (partner 10 a r)))
    ∧ k' (partner 10 a r) = (if down w r then min (k r) (k (partner 10 a r)) else max (k r) (k (partner 10 a r)))

/-- Keeping exactly when the pair is in the order asked for is what a stage does. -/
theorem swap_of_keep {a : Nat} {w : Option (Fin 8)} {k v k' v' : Fin (2 ^ 10) → EReal}
    (h : ∀ r, r.val.testBit a = false → ∃ p : Prop,
      (p → k' r = k r ∧ v' r = v r ∧ k' (partner 10 a r) = k (partner 10 a r) ∧ v' (partner 10 a r) = v (partner 10 a r))
      ∧ (¬p → k' r = k (partner 10 a r) ∧ v' r = v (partner 10 a r) ∧ k' (partner 10 a r) = k r ∧ v' (partner 10 a r) = v r)
      ∧ (p → if down w r then k (partner 10 a r) ≤ k r else k r ≤ k (partner 10 a r))
      ∧ (¬p → if down w r then k r ≤ k (partner 10 a r) else k (partner 10 a r) ≤ k r)) : Swap a w k v k' v' := by
  intro r hr
  obtain ⟨p, h1, h2, h3, h4⟩ := h r hr
  by_cases hp : p
  · obtain ⟨e1, e2, e3, e4⟩ := h1 hp
    have o := h3 hp
    refine ⟨Or.inl ⟨e1, e2, e3, e4⟩, ?_, ?_⟩ <;> cases hd : down w r <;> simp [hd] at o ⊢ <;> simp [e1, e3, o]
  · obtain ⟨e1, e2, e3, e4⟩ := h2 hp
    have o := h4 hp
    refine ⟨Or.inr ⟨e1, e2, e3, e4⟩, ?_, ?_⟩ <;> cases hd : down w r <;> simp [hd] at o ⊢ <;> simp [e1, e3, o]

/-- A row with bit `a` clear is in a first run, its partner in the second. -/
theorem Cut.cover {g n a : Nat} (c : Cut g n) (hn : n = 2 ^ a) (ha : a < 10) (r : Fin (2 ^ 10)) (hr : r.val.testBit a = false) :
    ∃ b t, r = c.at b t 0 ∧ partner 10 a r = c.at b t 1 := by
  have e := c.rows
  have hpos : 0 < n := hn ▸ Nat.two_pow_pos a
  have h0 : r.val &&& 2 ^ a = 0 := (and_two_pow_eq_zero_iff_testBit _ _).mpr hr
  have hp := partner_val_of_clear ha r h0
  have hb : r.val / n % 2 = 0 := by
    rw [Nat.testBit_eq_decide_div_mod_eq, decide_eq_false_iff_not] at hr
    rw [hn]; omega
  have h1 : r.val / (2 * n) < g := by
    rw [Nat.div_lt_iff_lt_mul (by omega), e]; exact r.isLt
  have h2 : r.val % n < n := Nat.mod_lt _ hpos
  have h3 : r.val / (2 * n) * (2 * n) + r.val % n = r.val := by
    have e1 := Nat.div_add_mod r.val n
    have e2 := Nat.div_add_mod (r.val / n) 2
    rw [Nat.div_div_eq_div_mul, hb, Nat.mul_comm n 2, Nat.add_zero] at e2
    rw [← e2] at e1
    conv_rhs => rw [← e1]
    ring_nf
  refine ⟨⟨_, h1⟩, ⟨_, h2⟩, Fin.ext ?_, Fin.ext ?_⟩
  · show r.val = r.val / (2 * n) * (2 * n) + 0 * n + r.val % n
    omega
  · rw [hp, ← hn]
    show r.val + n = r.val / (2 * n) * (2 * n) + 1 * n + r.val % n
    omega

theorem down_eq (w : Option (Fin 8)) (r : Fin 1024) (q : Fin 128) (b : Fin 8) (h : w = some b) :
    setB k0_pay2 (BitVec.ofNat 32 (2 ^ b.val)) (ix2 r q) = BitVec.ofBool (down w r) := by
  subst h; exact pos_bit r q b

theorem stay_at {g n : Nat} (c : Cut g n) (w : Option (Fin 8)) (k : FVec Ideal S1024x128 .f32) (b : Fin g) (t : Fin n) (q : Fin 128) :
    stay c (word w) k (ix3 b t q)
      = BitVec.ofBool (xor (decide (k (ix2 (c.at b t 0) q) ≤ k (ix2 (c.at b t 1) q))) (down w (c.at b t 0))) := by
  have hl : leq c k (ix3 b t q) = BitVec.ofBool (decide (k (ix2 (c.at b t 0) q) ≤ k (ix2 (c.at b t 1) q))) := by
    rw [← lo_at c b t q k, ← hi_at c b t q k]; rfl
  cases w with
  | none => rw [show stay c (word none) k = leq c k from rfl, hl]; simp [down]
  | some w =>
    show leq c k (ix3 b t q) ^^^ setB (lo c k0_pay2) (BitVec.ofNat 32 (2 ^ w.val)) (ix3 b t q) = _
    rw [hl, setB_at, lo_at, ← setB_at, pos_bit]
    show _ = BitVec.ofBool (xor _ ((c.at b t 0).val.testBit w.val))
    generalize decide (k (ix2 (c.at b t 0) q) ≤ k (ix2 (c.at b t 1) q)) = x
    generalize Nat.testBit _ _ = y
    cases x <;> cases y <;> rfl

theorem exch_lo {g n : Nat} (c : Cut g n) (s : IVec (B3 g n) 1) (x : FVec Ideal S1024x128 .f32) (b : Fin g) (t : Fin n) (q : Fin 128) :
    exch c s x (ix2 (c.at b t 0) q) = if s (ix3 b t q) = 1#1 then x (ix2 (c.at b t 0) q) else x (ix2 (c.at b t 1) q) := by
  rw [exch, join_lo, ← lo_at c b t q x, ← hi_at c b t q x]; rfl
theorem exch_hi {g n : Nat} (c : Cut g n) (s : IVec (B3 g n) 1) (x : FVec Ideal S1024x128 .f32) (b : Fin g) (t : Fin n) (q : Fin 128) :
    exch c s x (ix2 (c.at b t 1) q) = if s (ix3 b t q) = 1#1 then x (ix2 (c.at b t 1) q) else x (ix2 (c.at b t 0) q) := by
  rw [exch, join_hi, ← lo_at c b t q x, ← hi_at c b t q x]; rfl

theorem blk_swap {g n : Nat} (c : Cut g n) (a : Nat) (hn : n = 2 ^ a) (ha : a < 10) (w : Option (Fin 8)) (s : St Ideal) (q : Fin 128) :
    Swap a w (lane s.1 q) (lane s.2 q) (lane (blk c (word w) s).1 q) (lane (blk c (word w) s).2 q) := by
  refine swap_of_keep fun r hr => ?_
  obtain ⟨b, t, e0, e1⟩ := c.cover hn ha r hr
  refine ⟨stay c (word w) s.1 (ix3 b t q) = 1#1, fun h => ?_, fun h => ?_, fun h => ?_, fun h => ?_⟩
  · rw [e1, e0]
    simp only [lane, blk, exch_lo, exch_hi, if_pos h, and_self]
  · rw [e1, e0]
    simp only [lane, blk, exch_lo, exch_hi, if_neg h, and_self]
  · rw [stay_at, ofBool_one] at h
    rw [e1, e0]
    simp only [lane]
    cases hd : down w (c.at b t 0) <;> simp [hd] at h ⊢
    · exact h
    · exact h.le
  · rw [stay_at, ofBool_one] at h
    rw [e1, e0]
    simp only [lane]
    cases hd : down w (c.at b t 0) <;> simp [hd] at h ⊢
    · exact h.le
    · exact h

section turned
variable {α : Type} {n m : Nat} (r : Rot n m) (x : S1024x128.Idx → α) (q : Fin 128)

theorem rolD_at (i j : Fin 1024) (h : j.val = i.val + n) : rolD r x (ix2 j q) = x (ix2 i q) := by
  have e := r.rows
  have hm : i.val < m := by have := j.isLt; omega
  refine (concatenate_pair_apply_right (t := S1024x128) (s₁ := B2 n) (s₂ := B2 m) 0 _ _ r.catDown (ix2 j q) rfl rfl
    (ix2 (n0 := m) ⟨i.val, hm⟩ q) (fun a => match a with
    | ⟨0, _⟩ => fun h => absurd rfl h | ⟨1, _⟩ => fun _ => rfl) h.symm).trans ?_
  exact extractStridedSlice_apply _ _ _ _ _ fun a => match a with
    | ⟨0, _⟩ => by show i.val = 0 + i.val; omega
    | ⟨1, _⟩ => by show q.val = 0 + q.val; omega

theorem rolU_at (i j : Fin 1024) (h : j.val = i.val + n) : rolU r x (ix2 i q) = x (ix2 j q) := by
  have e := r.rows
  have hm : i.val < m := by have := j.isLt; omega
  refine (concatenate_pair_apply_left (t := S1024x128) (s₁ := B2 m) (s₂ := B2 n) 0 _ _ r.catUp (ix2 i q) rfl
    (ix2 (n0 := m) ⟨i.val, hm⟩ q) (fun a => match a with
    | ⟨0, _⟩ => rfl | ⟨1, _⟩ => rfl)).trans ?_
  rw [rolRest]
  exact extractStridedSlice_apply _ _ _ _ _ fun a => match a with
    | ⟨0, _⟩ => by show j.val = n + i.val; omega
    | ⟨1, _⟩ => by show q.val = 0 + q.val; omega

end turned

theorem least_at (a : Fin 8) (w : Option (Fin 8)) (r : Fin 1024) (q : Fin 128) :
    least (BitVec.ofNat 32 (2 ^ a.val)) (word w) (ix2 r q) = BitVec.ofBool (xor (r.val.testBit a.val) (!down w r)) := by
  cases w with
  | none =>
    show setB k0_pay2 _ (ix2 r q) ^^^ 1#1 = _
    rw [pos_bit]
    show _ = BitVec.ofBool (xor _ (!false))
    generalize Nat.testBit _ _ = y
    cases y <;> rfl
  | some b =>
    show setB k0_pay2 _ (ix2 r q) ^^^ BitVec.ofBool (k0_pay2 (ix2 r q) &&& BitVec.ofNat 32 (2 ^ b.val) == 0#32) = _
    have h : (k0_pay2 (ix2 r q) &&& BitVec.ofNat 32 (2 ^ b.val) == 0#32) = !(r.val.testBit b.val) := by
      rw [← word_bit, pos_at, bne, Bool.not_not]
    rw [h, pos_bit]
    show _ = BitVec.ofBool (xor _ (!(r.val.testBit b.val)))
    generalize Nat.testBit _ _ = y
    generalize Nat.testBit _ _ = z
    cases y <;> cases z <;> rfl

theorem keeps_at {n m : Nat} (r : Rot n m) (j : BitVec 32) (w : Option (BitVec 32)) (k : FVec Ideal S1024x128 .f32) (i : S1024x128.Idx)
    (x : Bool) (hx : least j w i = BitVec.ofBool x) :
    keeps r j w k i = BitVec.ofBool (if x then decide (k i ≤ mate r j k i) else !decide (k i < mate r j k i)) := by
  show (least j w i &&& BitVec.ofBool (decide (k i ≤ mate r j k i)))
    ||| ((least j w i ^^^ 1#1) &&& (BitVec.ofBool (decide (k i < mate r j k i)) ^^^ 1#1)) = _
  rw [hx]
  generalize (decide (k i ≤ mate r j k i)) = y
  generalize (decide (k i < mate r j k i)) = z
  cases x <;> cases y <;> cases z <;> rfl

theorem rol_swap {n m : Nat} (r : Rot n m) (a : Fin 8) (hn : n = 2 ^ a.val) (w : Option (Fin 8)) (hw : w ≠ some a) (s : St Ideal) (q : Fin 128) :
    Swap a w (lane s.1 q) (lane s.2 q) (lane (rol r (BitVec.ofNat 32 (2 ^ a.val)) (word w) s).1 q)
      (lane (rol r (BitVec.ofNat 32 (2 ^ a.val)) (word w) s).2 q) := by
  refine swap_of_keep fun i hi => ?_
  have ha : a.val < 10 := by omega
  have h0 : i.val &&& 2 ^ a.val = 0 := (and_two_pow_eq_zero_iff_testBit _ _).mpr hi
  have hp := partner_val_of_clear ha i h0
  have hset : (partner 10 a.val i).val.testBit a.val = true := by
    rw [partner_val ha, Nat.testBit_xor, hi, Nat.testBit_two_pow_self]; rfl
  have hdown : down w (partner 10 a.val i) = down w i := by
    cases w with
    | none => rfl
    | some b =>
      have hne : a.val ≠ b.val := fun h => hw (congrArg some (Fin.ext h.symm))
      show (partner 10 a.val i).val.testBit b.val = i.val.testBit b.val
      rw [partner_val ha, Nat.testBit_xor, Nat.testBit_two_pow_of_ne hne, Bool.xor_false]
  rw [← hn] at hp
  generalize partner 10 a.val i = p at *
  have m0 : ∀ x : FVec Ideal S1024x128 .f32, mate r (BitVec.ofNat 32 (2 ^ a.val)) x (ix2 (n0 := 1024) i q) = x (ix2 (n0 := 1024) p q) := fun x => by
    show Scalar.select (setB k0_pay2 _ _) _ _ = _
    rw [pos_bit i q a, hi, rolU_at r x q i p hp]; rfl
  have m1 : ∀ x : FVec Ideal S1024x128 .f32, mate r (BitVec.ofNat 32 (2 ^ a.val)) x (ix2 (n0 := 1024) p q) = x (ix2 (n0 := 1024) i q) := fun x => by
    show Scalar.select (setB k0_pay2 _ _) _ _ = _
    rw [pos_bit p q a, hset, rolD_at r x q i p hp]; rfl
  have k0 := keeps_at r _ (word w) s.1 _ _ (least_at a w i q)
  have k1 := keeps_at r _ (word w) s.1 _ _ (least_at a w p q)
  rw [m0, hi] at k0
  rw [m1, hset, hdown] at k1
  have l0 : ∀ x : FVec Ideal S1024x128 .f32, select (keeps r (BitVec.ofNat 32 (2 ^ a.val)) (word w) s.1) x (mate r (BitVec.ofNat 32 (2 ^ a.val)) x) (ix2 (n0 := 1024) i q)
      = if keeps r (BitVec.ofNat 32 (2 ^ a.val)) (word w) s.1 (ix2 (n0 := 1024) i q) = 1#1 then x (ix2 (n0 := 1024) i q) else x (ix2 (n0 := 1024) p q) := fun x => by
    rw [← m0 x]; rfl
  have l1 : ∀ x : FVec Ideal S1024x128 .f32, select (keeps r (BitVec.ofNat 32 (2 ^ a.val)) (word w) s.1) x (mate r (BitVec.ofNat 32 (2 ^ a.val)) x) (ix2 (n0 := 1024) p q)
      = if keeps r (BitVec.ofNat 32 (2 ^ a.val)) (word w) s.1 (ix2 (n0 := 1024) p q) = 1#1 then x (ix2 (n0 := 1024) p q) else x (ix2 (n0 := 1024) i q) := fun x => by
    rw [← m1 x]; rfl
  simp only [lane, rol, l0, l1, k0, k1]
  cases hd : down w i
  · by_cases h : s.1 (ix2 (n0 := 1024) i q) ≤ s.1 (ix2 (n0 := 1024) p q)
    · refine ⟨True, ?_, ?_, ?_, ?_⟩ <;> simp [h, not_lt.mpr h]
    · refine ⟨False, ?_, ?_, ?_, ?_⟩ <;> simp [h, le_of_lt (not_le.mp h), not_le.mp h]
  · by_cases h : s.1 (ix2 (n0 := 1024) p q) ≤ s.1 (ix2 (n0 := 1024) i q)
    · refine ⟨True, ?_, ?_, ?_, ?_⟩ <;> simp [h, not_lt.mpr h]
    · refine ⟨False, ?_, ?_, ?_, ?_⟩ <;> simp [h, le_of_lt (not_le.mp h), not_le.mp h]

end Cert.KernelIdeal.Sort
-- ==== Proof.SortedLane.lean ====
/- The whole network: in the order of the ranks, one lane of one example is left sorted by key, keys and weights moved by one
   permutation. -/
module

public import proofs.«01_k».proof.Proof.StageValue

@[expose] public section

noncomputable section

namespace Cert.KernelIdeal.Sort

open Idealize.ShloMosaic Idealize.ShloMosaic.SortNet Idealize.SL.Sem Cert.KernelIdeal.Gen Idealize.ShloMosaic.Pointwise

/-- The position bit that a rank bit is kept in. -/
def posBit : Fin 8 → Fin 8 := ![5, 6, 7, 3, 4, 0, 1, 2]

/-- The position of a rank within an example's 256 rows. -/
def spot (i : Nat) : Nat := ((i &&& 7) <<< 5) ||| (i &&& 24) ||| ((i >>> 5) &&& 7)

theorem spot_lt : ∀ i : Fin (2 ^ 8), spot i.val < 256 := by decide +kernel

/-- The row of a rank of an example. -/
def rowOf (e : Fin 4) (i : Fin (2 ^ 8)) : Fin (2 ^ 10) := ⟨256 * e.val + spot i.val, by have := spot_lt i; have := e.isLt; omega⟩

theorem rowOf_partner : ∀ (e : Fin 4) (s : Fin 8) (i : Fin (2 ^ 8)),
    partner 10 (posBit s).val (rowOf e i) = rowOf e (partner 8 s.val i) := by decide +kernel

theorem rowOf_bit : ∀ (e : Fin 4) (s : Fin 8) (i : Fin (2 ^ 8)),
    (rowOf e i).val.testBit (posBit s).val = i.val.testBit s.val := by decide +kernel

/-- The position bit that says the direction of a merge level. -/
def dirBit : Fin 8 → Option (Fin 8) := ![some 6, some 7, some 3, some 4, some 0, some 1, some 2, none]

/-- Whether a rank is sorted downwards at a level. -/
def falls (l : Nat) (i : Fin (2 ^ 8)) : Bool := decide (i.val &&& 2 ^ (l + 1) = 0) == false

theorem down_rowOf : ∀ (e : Fin 4) (l : Fin 8) (i : Fin (2 ^ 8)), down (dirBit l) (rowOf e i).val = falls l.val i := by decide +kernel

theorem dirBit_ne : ∀ l s : Fin 8, s ≤ l → dirBit l ≠ some (posBit s) := by decide

/-- The stage of level `l` and rank distance `2 ^ s`. -/
def step (l s : Fin 8) : St Ideal → St Ideal := match s with
  | 0 => s32 (word (dirBit l)) | 1 => s64 (word (dirBit l)) | 2 => s128 (word (dirBit l)) | 3 => s8 (word (dirBit l))
  | 4 => s16 (word (dirBit l)) | 5 => s1 (word (dirBit l)) | 6 => s2 (word (dirBit l)) | 7 => s4 (word (dirBit l))

theorem step_swap (l s : Fin 8) (h : s ≤ l) (x : St Ideal) (q : Fin 128) :
    Swap (posBit s).val (dirBit l) (lane x.1 q) (lane x.2 q) (lane (step l s x).1 q) (lane (step l s x).2 q) := by
  have hw := dirBit_ne l s h
  match s, hw with
  | 0, _ => exact blk_swap cut32 5 rfl (by decide) (dirBit l) x q
  | 1, _ => exact blk_swap cut64 6 rfl (by decide) (dirBit l) x q
  | 2, _ => exact blk_swap cut128 7 rfl (by decide) (dirBit l) x q
  | 3, _ => exact blk_swap cut8 3 rfl (by decide) (dirBit l) x q
  | 4, _ => exact blk_swap cut16 4 rfl (by decide) (dirBit l) x q
  | 5, hw => exact rol_swap rot1 0 rfl (dirBit l) hw x q
  | 6, hw => exact rol_swap rot2 1 rfl (dirBit l) hw x q
  | 7, hw => exact rol_swap rot4 2 rfl (dirBit l) hw x q

/-- The keys are what a network makes of the first ones, and one permutation took keys and weights there. -/
def Moved (N : Network (2 ^ 8)) (k₀ v₀ k v : Fin (2 ^ 8) → EReal) : Prop :=
  k = Network.apply N k₀ ∧ ∃ τ : Equiv.Perm (Fin (2 ^ 8)), k = k₀ ∘ τ ∧ v = v₀ ∘ τ

/-- What holds of each pair's two ranks holds of every rank. -/
theorem each_of_pair (s : Fin 8) (Q : Fin (2 ^ 8) → Prop) (h : ∀ i : Fin (2 ^ 8), i.val.testBit s.val = false → Q i ∧ Q (partner 8 s.val i))
    (i : Fin (2 ^ 8)) : Q i := by
  cases hb : i.val.testBit s.val
  · exact (h i hb).1
  · have hp : (partner 8 s.val i).val.testBit s.val = false := by
      rw [partner_val s.isLt, Nat.testBit_xor, hb, Nat.testBit_two_pow_self]; rfl
    have := (h _ hp).2
    rwa [partner_partner s.isLt] at this

theorem Moved.swap {N : Network (2 ^ 8)} {k₀ v₀ : Fin (2 ^ 8) → EReal} {K V K' V' : Fin (2 ^ 10) → EReal} (e : Fin 4) (l s : Fin 8)
    (hm : Moved N k₀ v₀ (K ∘ rowOf e) (V ∘ rowOf e)) (hs : Swap (posBit s).val (dirBit l) K V K' V') :
    Moved (N ++ stage 8 s.val (falls l.val)) k₀ v₀ (K' ∘ rowOf e) (V' ∘ rowOf e) := by
  obtain ⟨hk, τ, h1, h2⟩ := hm
  have hp : ∀ i : Fin (2 ^ 8), i.val.testBit s.val = false → _ := fun i hi => hs (rowOf e i) (by rw [rowOf_bit, hi])
  simp only [rowOf_partner, down_rowOf] at hp
  let P : Fin (2 ^ 8) → Prop := fun i => K' (rowOf e i) = K (rowOf e i) ∧ V' (rowOf e i) = V (rowOf e i)
  have hPP : ∀ i, P i ↔ P (partner 8 s.val i) := each_of_pair s _ fun i hi => by
    rw [partner_partner s.isLt, iff_comm (a := P (partner 8 s.val i)), and_self]
    obtain ⟨h | h, -⟩ := hp i hi
    · exact ⟨fun _ => ⟨h.2.2.1, h.2.2.2⟩, fun _ => ⟨h.1, h.2.1⟩⟩
    · obtain ⟨a, b, c, d⟩ := h
      refine ⟨fun ⟨x, y⟩ => ⟨?_, ?_⟩, fun ⟨x, y⟩ => ⟨?_, ?_⟩⟩
      · rw [c, ← a, x]
      · rw [d, ← b, y]
      · rw [a, ← c, x]
      · rw [b, ← d, y]
  have hno : ∀ i, ¬P i → K' (rowOf e i) = K (rowOf e (partner 8 s.val i)) ∧ V' (rowOf e i) = V (rowOf e (partner 8 s.val i)) :=
    each_of_pair s _ fun i hi => by
      rw [partner_partner s.isLt]
      obtain ⟨h | h, -⟩ := hp i hi
      · exact ⟨fun n => absurd ⟨h.1, h.2.1⟩ n, fun n => absurd ⟨h.2.2.1, h.2.2.2⟩ n⟩
      · exact ⟨fun _ => ⟨h.1, h.2.1⟩, fun _ => ⟨h.2.2.1, h.2.2.2⟩⟩
  classical
  let f : Fin (2 ^ 8) → Fin (2 ^ 8) := fun i => if P i then i else partner 8 s.val i
  have hf : Function.Involutive f := fun i => by
    by_cases h : P i
    · simp only [f, if_pos h]
    · simp only [f, if_neg h, if_neg (fun x => h ((hPP i).mpr x)), partner_partner s.isLt]
  refine ⟨?_, hf.toPerm.trans τ, ?_, ?_⟩
  · rw [Network.apply_append, ← hk]
    funext i
    refine each_of_pair s (fun i => (K' ∘ rowOf e) i = Network.apply _ (K ∘ rowOf e) i) (fun i hi => ?_) i
    have h0 := apply_stage s.isLt (falls l.val) (K ∘ rowOf e) i ((and_two_pow_eq_zero_iff_testBit _ _).mpr hi)
    exact ⟨((hp i hi).2.1).trans h0.1.symm, ((hp i hi).2.2).trans h0.2.symm⟩
  · funext i
    show K' (rowOf e i) = (k₀ ∘ τ) (f i)
    rw [← h1]
    by_cases h : P i
    · simp only [f, if_pos h]; exact h.1
    · simp only [f, if_neg h]; exact (hno i h).1
  · funext i
    show V' (rowOf e i) = (v₀ ∘ τ) (f i)
    rw [← h2]
    by_cases h : P i
    · simp only [f, if_pos h]; exact h.2
    · simp only [f, if_neg h]; exact (hno i h).2

/-- The levels and distances of the stages, in order. -/
def order : List (Fin 8 × Fin 8) :=
  [(0, 0), (1, 1), (1, 0), (2, 2), (2, 1), (2, 0), (3, 3), (3, 2), (3, 1), (3, 0), (4, 4), (4, 3), (4, 2), (4, 1), (4, 0),
    (5, 5), (5, 4), (5, 3), (5, 2), (5, 1), (5, 0), (6, 6), (6, 5), (6, 4), (6, 3), (6, 2), (6, 1), (6, 0),
    (7, 7), (7, 6), (7, 5), (7, 4), (7, 3), (7, 2), (7, 1), (7, 0)]

theorem sorted_eq (x : St Ideal) : sorted x = order.foldl (fun x p => step p.1 p.2 x) x := rfl

theorem net_eq : sortNet 8 false = order.flatMap fun p => stage 8 p.2.val (falls p.1.val) := by
  have h : (List.range 8).flatMap (fun l => (List.range (l + 1)).reverse.map fun s => (l, s))
      = order.map fun p => (p.1.val, p.2.val) := by decide
  have h' : sortNet 8 false = ((List.range 8).flatMap (fun l => (List.range (l + 1)).reverse.map fun s => (l, s))).flatMap
      fun p => stage 8 p.2 (falls p.1) := by
    simp only [sortNet, List.flatMap_assoc, List.flatMap_map]; rfl
  rw [h', h, List.flatMap_map]

theorem Moved.fold (e : Fin 4) (q : Fin 128) {k₀ v₀ : Fin (2 ^ 8) → EReal} : ∀ (L : List (Fin 8 × Fin 8)), (∀ p ∈ L, p.2 ≤ p.1) →
    ∀ (N : Network (2 ^ 8)) (x : St Ideal), Moved N k₀ v₀ (lane x.1 q ∘ rowOf e) (lane x.2 q ∘ rowOf e) →
      Moved (N ++ L.flatMap fun p => stage 8 p.2.val (falls p.1.val)) k₀ v₀
        (lane (L.foldl (fun x p => step p.1 p.2 x) x).1 q ∘ rowOf e) (lane (L.foldl (fun x p => step p.1 p.2 x) x).2 q ∘ rowOf e)
  | [], _, N, x, h => by simpa using h
  | p :: L, hL, N, x, h => by
    have h1 := h.swap e p.1 p.2 (step_swap p.1 p.2 (hL p List.mem_cons_self) x q)
    have h2 := Moved.fold e q L (fun p hp => hL p (List.mem_cons_of_mem _ hp)) _ _ h1
    rw [List.append_assoc] at h2
    exact h2

/-- In rank order an example's lane is sorted, and its keys and weights are the first ones moved by one permutation. -/
theorem sorted_lane (x : St Ideal) (e : Fin 4) (q : Fin 128) :
    Monotone (lane (sorted x).1 q ∘ rowOf e)
      ∧ ∃ τ : Equiv.Perm (Fin (2 ^ 8)), lane (sorted x).1 q ∘ rowOf e = (lane x.1 q ∘ rowOf e) ∘ τ
        ∧ lane (sorted x).2 q ∘ rowOf e = (lane x.2 q ∘ rowOf e) ∘ τ := by
  have h0 : Moved [] (lane x.1 q ∘ rowOf e) (lane x.2 q ∘ rowOf e) (lane x.1 q ∘ rowOf e) (lane x.2 q ∘ rowOf e) :=
    ⟨rfl, Equiv.refl _, rfl, rfl⟩
  have h := Moved.fold e q order (by decide) [] x h0
  rw [← sorted_eq, List.nil_append, ← net_eq] at h
  exact ⟨h.1 ▸ sortNet_apply_monotone 8 _, h.2⟩

end Cert.KernelIdeal.Sort
-- ==== Proof.Reads.lean ====
/- What the kernel's operands hold when the region starts, index by index. -/
module

public import proofs.«01_k».proof.Proof.SortedLane
public import Idealize.ShloMosaic.Lib.Claim

@[expose] public section

noncomputable section

namespace Cert.KernelIdeal.Operands

open Idealize.ShloMosaic Idealize.ShloMosaic.TcCoe Idealize.SL.Sem Cert.KernelIdeal Cert.KernelIdeal.Gen Idealize.ShloMosaic.Pointwise
open Cert.KernelIdeal.Sort (spot spot_lt)

variable (m : (ℓ : Loc nD τ sig) → Buf (Elt Ideal) ℓ) (c : Dev nD)

/-- The four arguments. -/
abbrev points : FVec Ideal S1024x200x64 .f32 := m ((c.tc : Thread nD τ).loc main_arg0)
abbrev weights : FVec Ideal S1024x200 .f32 := m ((c.tc : Thread nD τ).loc main_arg1)
abbrev slices : FVec Ideal S128x64 .f32 := m ((c.tc : Thread nD τ).loc main_arg2)
abbrev freqs : FVec Ideal S128 .f32 := m ((c.tc : Thread nD τ).loc main_arg3)

/-- An example's weights over their sum. -/
def normal (w : FVec Ideal S1024x200 .f32) (b : Fin 1024) (n : Fin 200) : EReal :=
  Ideal.div (w (ix2 b n)) (∑ k : Fin 200, w (ix2 b k))

set_option maxRecDepth 16384

/-- The rank kept at a position, as the words compute it. -/
abbrev rankWord (x : BitVec 32) : BitVec 32 :=
  IntOp.ori (IntOp.ori (IntOp.shli ArithUnit.host (IntOp.andi x 7#32) 5#32) (IntOp.andi x 24#32))
    (IntOp.andi (IntOp.shrsi ArithUnit.host x 5#32) 7#32)

theorem rankWord_spot : ∀ i : Fin (2 ^ 8), rankWord (BitVec.ofNat 32 (spot i.val)) = BitVec.ofNat 32 i.val := by decide +kernel

theorem word_toNat (i : Fin (2 ^ 8)) : (BitVec.ofNat 32 i.val).toNat = i.val := by
  rw [BitVec.toNat_ofNat]
  exact Nat.mod_eq_of_lt (by have := i.isLt; omega)

theorem word_toInt (i : Fin (2 ^ 8)) : (BitVec.ofNat 32 i.val).toInt = i.val := by
  rw [BitVec.toInt_eq_toNat_of_lt (by rw [word_toNat]; have := i.isLt; omega), word_toNat]

theorem sle_word (i j : Fin (2 ^ 8)) :
    IntOp.cmpi .sle (BitVec.ofNat 32 j.val) (BitVec.ofNat 32 i.val) = BitVec.ofBool (decide (j ≤ i)) := by
  show BitVec.ofBool (BitVec.sle _ _) = _
  congr 1
  rw [BitVec.sle_eq_decide, word_toInt, word_toInt]
  exact decide_eq_decide.2 (by rw [Fin.le_def]; exact Int.ofNat_le)

theorem spot_spot : ∀ i : Fin (2 ^ 8), spot (spot i.val) = i.val := by decide +kernel

theorem same_word (i j : Fin (2 ^ 8)) : IntOp.cmpi .eq (IntOp.addi (BitVec.ofNat 32 (spot i.val)) 0#32) (BitVec.ofNat 32 (spot j.val))
    = BitVec.ofBool (decide (j = i)) := by
  show BitVec.ofBool (BitVec.ofNat 32 (spot i.val) + 0#32 == BitVec.ofNat 32 (spot j.val)) = _
  congr 1
  rw [BitVec.add_zero, beq_eq_decide]
  refine decide_eq_decide.2 ⟨fun h => ?_, fun h => by rw [h]⟩
  have h2 := congrArg BitVec.toNat h
  rw [word_toNat ⟨spot i.val, spot_lt i⟩, word_toNat ⟨spot j.val, spot_lt j⟩] at h2
  have h3 := congrArg spot h2
  simp only [spot_spot] at h3
  exact Fin.ext h3.symm

theorem after_word (i j : Fin (2 ^ 8)) : IntOp.cmpi .eq (BitVec.ofNat 32 j.val) (IntOp.addi (BitVec.ofNat 32 i.val) 1#32)
    = BitVec.ofBool (decide (j.val = i.val + 1)) := by
  show BitVec.ofBool (BitVec.ofNat 32 j.val == BitVec.ofNat 32 i.val + 1#32) = _
  congr 1
  rw [beq_eq_decide]
  have hi := i.isLt
  have hs : (BitVec.ofNat 32 i.val + 1#32).toNat = i.val + 1 := by
    rw [BitVec.toNat_add, word_toNat]
    exact Nat.mod_eq_of_lt (by show i.val + 1 < _; omega)
  refine decide_eq_decide.2 ⟨fun h => ?_, fun h => BitVec.eq_of_toNat_eq (by rw [word_toNat, hs, h])⟩
  have h2 := congrArg BitVec.toNat h
  rwa [word_toNat, hs] at h2

/-- The example a row belongs to, as the words compute it. -/
abbrev ownerWord (x : BitVec 32) : BitVec 32 :=
  Scalar.select (α := BitVec 32)
    (IntOp.andi
      (IntOp.cmpi .ne (if x = 0 then (0 : BitVec 32) else if x.msb = true then -1 else 1)
        (if (256#32 : BitVec 32) = 0 then (0 : BitVec 32) else if BitVec.msb 256#32 = true then -1 else 1))
      (IntOp.cmpi .ne (IntOp.remsi ArithUnit.host x 256#32) 0#32))
    (IntOp.subi (IntOp.divsi ArithUnit.host x 256#32) 1#32) (IntOp.divsi ArithUnit.host x 256#32)

theorem owner_word : ∀ (e : Fin 4) (r : Fin 1024), IntOp.cmpi .eq (ownerWord (BitVec.ofNat 32 r.val)) (BitVec.ofNat 32 e.val)
    = BitVec.ofBool (decide (r.val / 256 = e.val)) := by
  decide +kernel

theorem bit_value (p : Prop) [Decidable p] : (FloatOps.uitofp .f32 (BitVec.ofBool (decide p)) : Ideal .f32) = if p then (1 : EReal) else 0 := by
  by_cases h : p
  · rw [if_pos h, decide_eq_true h]
    show (((BitVec.ofBool true).toNat : ℝ) : EReal) = 1
    simp
  · rw [if_neg h, decide_eq_false h]
    show (((BitVec.ofBool false).toNat : ℝ) : EReal) = 0
    simp

theorem points_read : V m c main_v13 = shapeCast S204800x64 (points m c) shapeCasts_S1024x200x64_S204800x64 := by
  simp only [V, V0, List.flatten_cons, List.flatten_nil, List.append_nil, List.cons_append, List.nil_append]
  entry_read
  rfl

theorem points_at (b : Fin 1024) (n : Fin 200) (d : Fin 64) (r : Fin 204800) (hr : r.val = b.val * 200 + n.val) :
    V m c main_v13 (ix2 r d) = points m c (ix3 b n d) := by
  rw [points_read]
  exact shapeCast_apply _ _ _ _ (by
    rw [Shape.rowMajor_val_two, Shape.rowMajor_val_three]
    show (b.val * 200 + n.val) * 64 + d.val = r.val * 64 + d.val
    rw [hr])

theorem weights_at (b : Fin 1024) (p : Fin 256) (r : Fin 262144) (hr : r.val = b.val * 256 + p.val) :
    V m c main_v19 (ix2 r 0) = if h : p.val < 200 then normal (weights m c) b ⟨p.val, h⟩ else 0 := by
  simp only [V, V0, List.flatten_cons, List.flatten_nil, List.append_nil, List.cons_append, List.nil_append,
    StableHlo.TRef.unary, StableHlo.TRef.binary, StableHlo.TRef.toBuf, StableHlo.TRef.ofBuf, cast_eq]
  entry_read
  refine (shapeCast_apply _ _ _ (ix2 b p) (by
    rw [show (main_v19.ty.shape.rowMajor (ix2 r 0)).val = r.val * 1 + 0 from Shape.rowMajor_val_two (ix2 r 0),
      Shape.rowMajor_val_two]
    show b.val * 256 + p.val = r.val * 1 + 0
    omega)).trans ?_
  pointwise
  by_cases h : p.val < 200
  · rw [dif_pos h, dif_pos h]
    rfl
  · rw [dif_neg h, dif_neg h]
    show (((0#32 : BitVec 32).toInt : ℝ) : EReal) = 0
    simp

theorem slices_at (d : Fin 64) (q : Fin 128) : V m c main_v20 (ix2 d q) = slices m c (ix2 q d) := by
  simp only [V, V0, List.flatten_cons, List.flatten_nil, List.append_nil, List.cons_append, List.nil_append]
  entry_read
  pointwise

theorem runs_at (i j : Fin (2 ^ 8)) :
    V m c main_v42 (ix2 ⟨spot i.val, (spot_lt i).trans (by decide)⟩ ⟨spot j.val, spot_lt j⟩) = if j ≤ i then (1 : EReal) else 0 := by
  simp only [V, V0, List.flatten_cons, List.flatten_nil, List.append_nil, List.cons_append, List.nil_append]
  entry_read
  refine (concatenate_pair_apply_left (t := S512x256) (s₁ := S256x256) (s₂ := S256x256) 0 _ _ _ _ rfl
    (ix2 ⟨spot i.val, spot_lt i⟩ ⟨spot j.val, spot_lt j⟩) fun a => match a with
    | ⟨0, _⟩ => rfl | ⟨1, _⟩ => rfl).trans ?_
  pointwise
  exact (congrArg _ ((congrArg₂ (IntOp.cmpi .sle) (rankWord_spot j) (rankWord_spot i)).trans (sle_word i j))).trans (bit_value _)

theorem steps_at (i j : Fin (2 ^ 8)) :
    V m c main_v42 (ix2 ⟨256 + spot i.val, by have := spot_lt i; omega⟩ ⟨spot j.val, spot_lt j⟩)
      = (if j = i then (1 : EReal) else 0) - (if j.val = i.val + 1 then 1 else 0) := by
  simp only [V, V0, List.flatten_cons, List.flatten_nil, List.append_nil, List.cons_append, List.nil_append]
  entry_read
  refine (concatenate_pair_apply_right (t := S512x256) (s₁ := S256x256) (s₂ := S256x256) 0 _ _ _ _ rfl rfl
    (ix2 ⟨spot i.val, spot_lt i⟩ ⟨spot j.val, spot_lt j⟩) (fun a => match a with
    | ⟨0, _⟩ => fun h => absurd rfl h | ⟨1, _⟩ => fun _ => rfl) (Nat.add_comm _ _)).trans ?_
  pointwise
  refine congrArg₂ (· - ·) ((congrArg _ (same_word i j)).trans (bit_value _)) ((congrArg _ ?_).trans (bit_value _))
  exact (congrArg₂ (fun x y => IntOp.cmpi .eq x (IntOp.addi y 1#32)) (rankWord_spot j) (rankWord_spot i)).trans (after_word i j)

theorem owner_at (e : Fin 4) (r : Fin 1024) : V m c main_v51 (ix2 e r) = if r.val / 256 = e.val then (1 : EReal) else 0 := by
  simp only [V, V0, List.flatten_cons, List.flatten_nil, List.append_nil, List.cons_append, List.nil_append,
    StableHlo.TRef.unary, StableHlo.TRef.binary, StableHlo.TRef.nullary, StableHlo.TRef.ternary, StableHlo.TRef.toBuf, StableHlo.TRef.ofBuf, cast_eq]
  after_results_simp
  pointwise
  exact (congrArg _ (owner_word e r)).trans (bit_value _)

/-- The constant the frequencies are multiplied by. -/
def piWord : EReal := Ideal.ofBits .f32 0x40490FDB#32

theorem freqs_at (q : Fin 128) : V m c main_v54 (ix2 0 q) = piWord * freqs m c (ix1 q) := by
  simp only [V, V0, List.flatten_cons, List.flatten_nil, List.append_nil, List.cons_append, List.nil_append]
  entry_read
  pointwise
  rfl

theorem periods_at (q : Fin 128) : V m c main_v59 (ix2 0 q) = Ideal.div 1 (piWord * freqs m c (ix1 q)) := by
  simp only [V, V0, List.flatten_cons, List.flatten_nil, List.append_nil, List.cons_append, List.nil_append]
  entry_read
  pointwise
  rfl

end Cert.KernelIdeal.Operands
-- ==== Proof.Payload.lean ====
/- The block's last step, after its network: at an example and a lane, the sum over the example's rows of a
   difference of keys times the sine of a running weight. -/
module

public import proofs.«01_k».proof.Proof.Reads

@[expose] public section

noncomputable section

namespace Cert.KernelIdeal.Payload

open Idealize.ShloMosaic Idealize.SL.Sem Cert.KernelIdeal Cert.KernelIdeal.Gen Idealize.ShloMosaic.Pointwise

set_option maxRecDepth 16384

/-- Row `i` of example `e`. -/
def row (e : Fin 4) (i : Fin 256) : Fin 1024 := ⟨256 * e.val + i.val, by omega⟩

/-- A matrix times one example's rows. -/
def pieceMul (M : FVec Ideal S256x256 .f32) (x : FVec Ideal S1024x128 .f32) (off : Fin 2 → Nat)
    (h : S1024x128.Slices off S256x128) : FVec Ideal S256x128 .f32 :=
  matmul dot_S256x256_S256x128_S256x128_1_0_0_1_n_n (some .fp32) M (extractStridedSlice S256x128 off x h)
    (constant S256x128 .f32 0x00000000#32)

theorem pieceMul_at (M : FVec Ideal S256x256 .f32) (x : FVec Ideal S1024x128 .f32) (e : Fin 4)
    (h : S1024x128.Slices ![256 * e.val, 0] S256x128) (i : Fin 256) (q : Fin 128) :
    pieceMul M x ![256 * e.val, 0] h (ix2 i q) = ∑ k : Fin 256, M (ix2 i k) * x (ix2 (row e k) q) := by
  have hs : ∀ k : Fin 256, extractStridedSlice S256x128 ![256 * e.val, 0] x h (ix2 k q) = x (ix2 (row e k) q) := fun k =>
    extractStridedSlice_apply _ _ _ _ _ fun a => match a with
      | ⟨0, _⟩ => rfl
      | ⟨1, _⟩ => (Nat.zero_add _).symm
  unfold pieceMul
  generalize extractStridedSlice S256x128 ![256 * e.val, 0] x h = y at hs
  pointwise
  exact Finset.sum_congr rfl fun k _ => by rw [hs]

/-- A matrix times every example's rows. -/
def stackMul (M : FVec Ideal S256x256 .f32) (x : FVec Ideal S1024x128 .f32) : FVec Ideal S1024x128 .f32 :=
  concatenate S1024x128 0 [⟨S256x128, pieceMul M x ![0, 0] slices_S1024x128_o0_0_S256x128⟩,
    ⟨S256x128, pieceMul M x ![256, 0] slices_S1024x128_o256_0_S256x128⟩,
    ⟨S256x128, pieceMul M x ![512, 0] slices_S1024x128_o512_0_S256x128⟩,
    ⟨S256x128, pieceMul M x ![768, 0] slices_S1024x128_o768_0_S256x128⟩]
    concatenates_S256x128_S256x128_S256x128_S256x128_S1024x128_d0

theorem slices_of : ∀ e : Fin 4, S1024x128.Slices ![256 * e.val, 0] S256x128 := by decide

theorem stackMul_at (M : FVec Ideal S256x256 .f32) (x : FVec Ideal S1024x128 .f32) (e : Fin 4) (i : Fin 256) (q : Fin 128) :
    stackMul M x (ix2 (row e i) q) = ∑ k : Fin 256, M (ix2 i k) * x (ix2 (row e k) q) := by
  refine Eq.trans ?_ (pieceMul_at M x e (slices_of e) i q)
  refine concatenate_ofFn_apply (t := S1024x128) (s₁ := S256x128) 0 (N := 4)
    (fun e => pieceMul M x ![256 * e.val, 0] (slices_of e))
    concatenates_S256x128_S256x128_S256x128_S256x128_S1024x128_d0 rfl 256 rfl (ix2 (row e i) q) e ?_ (ix2 i q) ?_ ?_
  · show (256 * e.val + i.val) / 256 = e.val
    omega
  · show i.val = (256 * e.val + i.val) % 256
    omega
  · intro b hb
    match b with
    | ⟨0, _⟩ => exact absurd rfl hb
    | ⟨1, _⟩ => rfl

/-- The keys with the places past the points cleared. -/
def keptKeys (key : FVec Ideal S1024x128 .f32) : FVec Ideal S1024x128 .f32 :=
  select (cmpi .slt (ori (k0_pay221 k0_pay2) (andi (k0_pay222 k0_pay2) (broadcast S1024x128 7#32))) (broadcast S1024x128 200#32))
    key (broadcast S1024x128 (Scalar.ofBits .f32 0x00000000#32))

/-- What is summed over an example's rows. -/
def waves (key val : FVec Ideal S1024x128 .f32) (x3 : FVec Ideal S512x256 .f32) (x5 : FVec Ideal S1x128 .f32) : FVec Ideal S1024x128 .f32 :=
  mulf (stackMul (k0_pay220 x3) (keptKeys key)) (sin (mulf (stackMul (k0_pay219 x3) val)
    (broadcastTo S1024x128 (shapeCast S1x128 x5 shapeCasts_S1x128_S1x128) broadcasts_S1x128_S1024x128)))

theorem payload_eq (key val : FVec Ideal S1024x128 .f32) (x3 : FVec Ideal S512x256 .f32) (x4 : FVec Ideal S4x1024 .f32)
    (x5 x6 : FVec Ideal S1x128 .f32) :
    k0_pay1 (k0_pay223 key val (k0_pay219 x3) (k0_pay220 x3) (k0_pay221 k0_pay2) (k0_pay222 k0_pay2) x5 x4 x6)
      = shapeCast S1x4x128 (mulf (mulf (broadcast S4x128 (Named.named κ "root_two" 0x3FB504F3#32))
          (matmul dot_S4x1024_S1024x128_S4x128_1_0_0_1_n_n (some .fp32) (shapeCast S4x1024 x4 shapeCasts_S4x1024_S4x1024)
            (waves key val x3 x5) (constant S4x128 .f32 0x00000000#32)))
          (broadcastTo S4x128 (shapeCast S1x128 x6 shapeCasts_S1x128_S1x128) broadcasts_S1x128_S4x128)) shapeCasts_S4x128_S1x4x128 := rfl

/-- The rank of a row, as the words compute it. -/
abbrev rankOf (x : BitVec 32) : BitVec 32 :=
  IntOp.ori (IntOp.ori (IntOp.shli ArithUnit.vector (IntOp.andi (IntOp.andi x 255#32) 7#32) 5#32)
    (IntOp.andi (IntOp.andi x 255#32) 24#32)) (IntOp.andi (IntOp.shrsi ArithUnit.vector (IntOp.andi x 255#32) 5#32) 7#32)

theorem kept_word : ∀ (e : Fin 4) (i : Fin (2 ^ 8)),
    IntOp.cmpi .slt (rankOf (BitVec.ofNat 32 (row e ⟨Sort.spot i.val, Sort.spot_lt i⟩).val)) 200#32
      = BitVec.ofBool (decide (i.val < 200)) := by
  decide +kernel

theorem pick_bit (p : Prop) [Decidable p] (x y : EReal) : Scalar.select (BitVec.ofBool (decide p)) x y = if p then x else y := by
  by_cases h : p
  · rw [if_pos h, decide_eq_true h]
    rfl
  · rw [if_neg h, decide_eq_false h]
    rfl

theorem keptKeys_at (key : FVec Ideal S1024x128 .f32) (e : Fin 4) (i : Fin (2 ^ 8)) (q : Fin 128) :
    keptKeys key (ix2 (row e ⟨Sort.spot i.val, Sort.spot_lt i⟩) q)
      = if i.val < 200 then key (ix2 (row e ⟨Sort.spot i.val, Sort.spot_lt i⟩) q) else 0 := by
  unfold keptKeys k0_pay221 k0_pay222 k0_pay2
  pointwise
  exact (congrArg (Scalar.select · _ _) (kept_word e i)).trans (pick_bit _ _ _)

theorem waves_at (key val : FVec Ideal S1024x128 .f32) (x3 : FVec Ideal S512x256 .f32) (x5 : FVec Ideal S1x128 .f32)
    (e : Fin 4) (i : Fin 256) (q : Fin 128) :
    waves key val x3 x5 (ix2 (row e i) q)
      = (∑ k : Fin 256, x3 (ix2 ⟨256 + i.val, by omega⟩ k) * keptKeys key (ix2 (row e k) q))
        * Ideal.sin ((∑ k : Fin 256, x3 (ix2 ⟨i.val, by omega⟩ k) * val (ix2 (row e k) q)) * x5 (ix2 0 q)) := by
  have h1 := stackMul_at (k0_pay220 x3) (keptKeys key) e i q
  have h2 := stackMul_at (k0_pay219 x3) val e i q
  have e1 : ∀ k : Fin 256, k0_pay220 x3 (ix2 i k) = x3 (ix2 ⟨256 + i.val, by omega⟩ k) := fun k => by
    unfold k0_pay220 k0_pay218
    pointwise
  have e2 : ∀ k : Fin 256, k0_pay219 x3 (ix2 i k) = x3 (ix2 ⟨i.val, by omega⟩ k) := fun k => by
    unfold k0_pay219 k0_pay218
    pointwise
  simp only [e1] at h1
  simp only [e2] at h2
  rw [← h1, ← h2]
  unfold waves
  generalize stackMul (k0_pay220 x3) (keptKeys key) = u
  generalize stackMul (k0_pay219 x3) val = v
  pointwise

theorem payload_at (key val : FVec Ideal S1024x128 .f32) (x3 : FVec Ideal S512x256 .f32) (x4 : FVec Ideal S4x1024 .f32)
    (x5 x6 : FVec Ideal S1x128 .f32) (e : Fin 4) (q : Fin 128) :
    k0_pay1 (k0_pay223 key val (k0_pay219 x3) (k0_pay220 x3) (k0_pay221 k0_pay2) (k0_pay222 k0_pay2) x5 x4 x6) (ix3 0 e q)
      = ((Real.sqrt 2 : ℝ) : EReal) * (∑ r : Fin 1024, x4 (ix2 e r) * waves key val x3 x5 (ix2 r q)) * x6 (ix2 0 q) := by
  rw [payload_eq]
  generalize waves key val x3 x5 = u
  pointwise
  rfl

end Cert.KernelIdeal.Payload
-- ==== Proof.Start.lean ====
/- What a block's network starts from, row by row: an example's inner products followed by padding, and its weights. -/
module

public import proofs.«01_k».proof.Proof.Payload

@[expose] public section

noncomputable section

namespace Cert.KernelIdeal.Payload

open Idealize.ShloMosaic Idealize.SL.Sem Cert.KernelIdeal Cert.KernelIdeal.Gen Idealize.ShloMosaic.Pointwise

set_option maxRecDepth 16384

/-- The inner products of a block's points with the directions. -/
def dots (x0 : FVec Ideal S800x64 .f32) (x2 : FVec Ideal S64x128 .f32) : FVec Ideal S800x128 .f32 :=
  matmul dot_S800x64_S64x128_S800x128_1_0_0_1_n_n (some .fp32)
    (shapeCast S800x64 x0 shapeCasts_S800x64_S800x64) (shapeCast S64x128 x2 shapeCasts_S64x128_S64x128)
    (constant S800x128 .f32 0x00000000#32)

theorem dots_at (x0 : FVec Ideal S800x64 .f32) (x2 : FVec Ideal S64x128 .f32) (r : Fin 800) (q : Fin 128) :
    dots x0 x2 (ix2 r q) = ∑ d : Fin 64, x0 (ix2 r d) * x2 (ix2 d q) := by
  unfold dots
  pointwise

theorem slices200 : ∀ e : Fin 4, S800x128.Slices ![200 * e.val, 0] S200x128 := by decide

/-- The pieces the keys are laid out from. -/
def pieces (v : FVec Ideal S800x128 .f32) (u : FVec Ideal S56x128 .f32) : List ((s : Shape) × (s.Idx → Ideal .f32)) :=
  [⟨S200x128, extractStridedSlice S200x128 ![0, 0] v slices_S800x128_o0_0_S200x128⟩, ⟨S56x128, u⟩,
    ⟨S200x128, extractStridedSlice S200x128 ![200, 0] v slices_S800x128_o200_0_S200x128⟩, ⟨S56x128, u⟩,
    ⟨S200x128, extractStridedSlice S200x128 ![400, 0] v slices_S800x128_o400_0_S200x128⟩, ⟨S56x128, u⟩,
    ⟨S200x128, extractStridedSlice S200x128 ![600, 0] v slices_S800x128_o600_0_S200x128⟩, ⟨S56x128, u⟩]

theorem pieces_even (v : FVec Ideal S800x128 .f32) (u : FVec Ideal S56x128 .f32) : ∀ (e : Fin 4) (h : 2 * e.val < (pieces v u).length),
    (pieces v u)[2 * e.val] = ⟨S200x128, extractStridedSlice S200x128 ![200 * e.val, 0] v (slices200 e)⟩
  | 0, _ => rfl | 1, _ => rfl | 2, _ => rfl | 3, _ => rfl

theorem pieces_odd (v : FVec Ideal S800x128 .f32) (u : FVec Ideal S56x128 .f32) : ∀ (e : Fin 4) (h : 2 * e.val + 1 < (pieces v u).length),
    (pieces v u)[2 * e.val + 1] = ⟨S56x128, u⟩
  | 0, _ => rfl | 1, _ => rfl | 2, _ => rfl | 3, _ => rfl

/-- The extent of a piece along the rows. -/
abbrev rowsOf (s : Shape) : Nat := if h : s.rank = S1024x128.rank then s.size ((0 : Fin 2).cast h.symm) else 0

theorem before_even (v : FVec Ideal S800x128 .f32) (u : FVec Ideal S56x128 .f32) : ∀ e : Fin 4,
    ((((pieces v u).take (2 * e.val)).map (·.1)).map rowsOf).sum = 256 * e.val
  | 0 => rfl | 1 => rfl | 2 => rfl | 3 => rfl

theorem before_odd (v : FVec Ideal S800x128 .f32) (u : FVec Ideal S56x128 .f32) : ∀ e : Fin 4,
    ((((pieces v u).take (2 * e.val + 1)).map (·.1)).map rowsOf).sum = 256 * e.val + 200
  | 0 => rfl | 1 => rfl | 2 => rfl | 3 => rfl

theorem key0_at (x0 : FVec Ideal S800x64 .f32) (x2 : FVec Ideal S64x128 .f32) (e : Fin 4) (p : Fin 256) (q : Fin 128) :
    Sort.key0 x0 x2 (ix2 (row e p) q)
      = if h : p.val < 200 then ∑ d : Fin 64, x0 (ix2 ⟨200 * e.val + p.val, by omega⟩ d) * x2 (ix2 d q) else ⊤ := by
  let u : FVec Ideal S56x128 .f32 := broadcast S56x128 (Named.named κ "pad" 0x7149F2CA#32)
  have he : 2 * e.val + 1 < (pieces (dots x0 x2) u).length := by
    show 2 * e.val + 1 < 8
    omega
  show concatenate S1024x128 0 (pieces (dots x0 x2) u) concatenates_S200x128_S56x128_S200x128_S56x128_S200x128_S56x128_S200x128_S56x128_S1024x128_d0 (ix2 (row e p) q) = _
  by_cases h : p.val < 200
  · rw [dif_pos h, ← dots_at]
    refine (concatenate_apply_piece (t := S1024x128) 0 (pieces (dots x0 x2) u) concatenates_S200x128_S56x128_S200x128_S56x128_S200x128_S56x128_S200x128_S56x128_S1024x128_d0 (ix2 (row e p) q) (2 * e.val) (by omega) S200x128 _
      (pieces_even _ _ e (by omega)) rfl (256 * e.val) (before_even _ _ e) (ix2 ⟨p.val, h⟩ q) ?_ rfl).trans ?_
    · intro b hb
      match b with
      | ⟨0, _⟩ => exact absurd rfl hb
      | ⟨1, _⟩ => rfl
    · exact extractStridedSlice_apply _ _ _ _ _ fun a => match a with
        | ⟨0, _⟩ => rfl
        | ⟨1, _⟩ => (Nat.zero_add _).symm
  · rw [dif_neg h]
    refine (concatenate_apply_piece (t := S1024x128) 0 (pieces (dots x0 x2) u) concatenates_S200x128_S56x128_S200x128_S56x128_S200x128_S56x128_S200x128_S56x128_S1024x128_d0 (ix2 (row e p) q) (2 * e.val + 1) he S56x128 _
      (pieces_odd _ _ e he) rfl (256 * e.val + 200) (before_odd _ _ e) (ix2 ⟨p.val - 200, by omega⟩ q) ?_ ?_).trans ?_
    · intro b hb
      match b with
      | ⟨0, _⟩ => exact absurd rfl hb
      | ⟨1, _⟩ => rfl
    · show 256 * e.val + 200 + (p.val - 200) = 256 * e.val + p.val
      omega
    · rfl

theorem val0_at (x1 : FVec Ideal S1024x1 .f32) (r : Fin 1024) (q : Fin 128) : Sort.val0 x1 (ix2 r q) = x1 (ix2 r 0) := by
  unfold Sort.val0
  pointwise

end Cert.KernelIdeal.Payload
-- ==== Proof.Blocks.lean ====
/- The blocks the grid's points read and write, and the array the region leaves. -/
module

public import proofs.«01_k».proof.Proof.Start
public import Idealize.ShloMosaic.Lib.Pipeline.ValueKit

@[expose] public section

noncomputable section

namespace Cert.KernelIdeal.Blocks

open Idealize.ShloMosaic Idealize.ShloMosaic.TcCoe Idealize.SL.Sem Cert.KernelIdeal Cert.KernelIdeal.Gen Idealize.ShloMosaic.Pointwise
open Idealize.ShloMosaic.Pipeline (Dat)

set_option maxRecDepth 16384

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0, 0] := by
  decide +kernel

theorem points_lt (t : Fin cfg0.N) : t.val < 256 := lt_of_lt_of_eq t.isLt N_0

theorem blk0 (t : Fin cfg0.N) (r : Fin 800) (d : Fin 64) :
    iblk m c 0 t (ix2 r d) = V m c main_v13 (ix2 ⟨t.val * 800 + r.val, by have := points_lt t; omega⟩ d) := by
  have := points_lt t
  blk_ext [iblk, idx t]

theorem blk1 (t : Fin cfg0.N) (r : Fin 1024) :
    iblk m c 1 t (ix2 r 0) = V m c main_v19 (ix2 ⟨t.val * 1024 + r.val, by have := points_lt t; omega⟩ 0) := by
  have := points_lt t
  blk_ext [iblk, idx t]

theorem blk2 (t : Fin cfg0.N) (d : Fin 64) (q : Fin 128) : iblk m c 2 t (ix2 d q) = V m c main_v20 (ix2 d q) := by
  blk_ext [iblk, idx t]

theorem blk3 (t : Fin cfg0.N) (r : Fin 512) (k : Fin 256) : iblk m c 3 t (ix2 r k) = V m c main_v42 (ix2 r k) := by
  blk_ext [iblk, idx t]

theorem blk4 (t : Fin cfg0.N) (e : Fin 4) (r : Fin 1024) : iblk m c 4 t (ix2 e r) = V m c main_v51 (ix2 e r) := by
  blk_ext [iblk, idx t]

theorem blk5 (t : Fin cfg0.N) (q : Fin 128) : iblk m c 5 t (ix2 0 q) = V m c main_v54 (ix2 0 q) := by
  blk_ext [iblk, idx t]

theorem blk6 (t : Fin cfg0.N) (q : Fin 128) : iblk m c 6 t (ix2 0 q) = V m c main_v59 (ix2 0 q) := by
  blk_ext [iblk, idx t]

/-- What point `t` writes. -/
def written (t : Fin cfg0.N) : FVec Ideal S1x4x128 .f32 :=
  out0_7 (iblk m c 0 t) (iblk m c 1 t) (iblk m c 2 t) (iblk m c 3 t) (iblk m c 4 t) (iblk m c 5 t) (iblk m c 6 t)

theorem hz2 : (![0, 0] : Fin 2 → Nat) = fun _ => 0 := funext fun a => by fin_cases a <;> rfl
theorem hz3 : (![0, 0, 0] : Fin 3 → Nat) = fun _ => 0 := funext fun a => by fin_cases a <;> rfl

theorem out_at (x0 : FVec Ideal S800x64 .f32) (x1 : FVec Ideal S1024x1 .f32) (x2 : FVec Ideal S64x128 .f32) (x3 : FVec Ideal S512x256 .f32)
    (x4 : FVec Ideal S4x1024 .f32) (x5 x6 : FVec Ideal S1x128 .f32) (e : Fin 4) (q : Fin 128) :
    out0_7 (F := Ideal) x0 x1 x2 x3 x4 x5 x6 (ix3 0 e q) = ((Real.sqrt 2 : ℝ) : EReal)
      * (∑ r : Fin 1024, x4 (ix2 e r)
        * Payload.waves (Sort.sorted (F := Ideal) (Sort.key0 x0 x2, Sort.val0 x1)).1 (Sort.sorted (F := Ideal) (Sort.key0 x0 x2, Sort.val0 x1)).2 x3 x5 (ix2 r q))
      * x6 (ix2 0 q) := by
  have h224 : k0_pay224 (F := Ideal) x0 x1 x2 x3 x4 x5 x6 = k0_pay2 := rfl
  have l0 : View.ld (Val := Elt Ideal) (e' := .f32) x0 r0_0 = x0 := View.ld_unit_zero hz2 _ _
  have l1 : View.ld (Val := Elt Ideal) (e' := .f32) x1 r0_2 = x1 := View.ld_unit_zero hz2 _ _
  have l2 : View.ld (Val := Elt Ideal) (e' := .f32) x2 r0_1 = x2 := View.ld_unit_zero hz2 _ _
  have l3 : View.ld (Val := Elt Ideal) (e' := .f32) x3 r0_3 = x3 := View.ld_unit_zero hz2 _ _
  have l4 : View.ld (Val := Elt Ideal) (e' := .f32) x4 r0_5 = x4 := View.ld_unit_zero hz2 _ _
  have l5 : View.ld (Val := Elt Ideal) (e' := .f32) x5 r0_4 = x5 := View.ld_unit_zero hz2 _ _
  have l6 : View.ld (Val := Elt Ideal) (e' := .f32) x6 r0_4 = x6 := View.ld_unit_zero hz2 _ _
  unfold out0_7
  rw [View.canon_unit_zero hz3, Sort.sorted_key (F := Ideal) x0 x1 x2 x3 x4 x5 x6, Sort.sorted_val (F := Ideal) x0 x1 x2 x3 x4 x5 x6, h224, l3, l4, l5, l6]
  unfold Sort.st0
  rw [l0, l1, l2]
  exact Payload.payload_at _ _ x3 x4 x5 x6 e q

/-- The array the region leaves. -/
def result : FVec Ideal S256x4x128 .f32 := fun j => written m c ⟨(j 0).val, lt_of_lt_of_eq (j 0).isLt N_0.symm⟩ (ix3 0 (j 1) (j 2))

theorem arr_eq : (dats m 0 c).arrAt 7 cfg0.N = result m c := by
  refine (dats m 0 c).arrAt_eq_of_covers 7 (result m c) (by decide +kernel) fun t hf y => ?_
  blk_simp
  rw [after0_7]
  unfold result
  exact congrArg₂ (fun (s : Fin cfg0.N) (z : S1x4x128.Idx) => written m c s z)
    (by apply Fin.ext; blk_simp [idx t]) (by blk_ext [idx t])

end Cert.KernelIdeal.Blocks
-- ==== Proof.Abel.lean ====
/- The sums over sorted points: summation by parts, no dependence on how ties are ordered, and the padding sorted last. -/
module

public import Idealize.ShloMosaic.Lib.Pointwise
public import Idealize.ShloMosaic.Lib.SortNet.Sorts

@[expose] public section

noncomputable section

namespace Cert.Quantile

variable {n : Nat}

/-- The weights up to a place. -/
def cum (w : Fin n → ℝ) (i : Fin n) : ℝ := ∑ j, if j ≤ i then w j else 0

/-- The next entry, or 0 after the last. -/
def next (y : Fin n → ℝ) (i : Fin n) : ℝ := if h : i.val + 1 < n then y ⟨i.val + 1, h⟩ else 0

/-- The sum the kernel makes: differences of the points times a function of the weights so far. -/
def total (S : ℝ → ℝ) (y w : Fin n → ℝ) : ℝ := ∑ i, (y i - next y i) * S (cum w i)

theorem parts (y T : Nat → ℝ) (m : Nat) : ∑ i ∈ Finset.range m, y i * (T (i + 1) - T i)
    = ∑ i ∈ Finset.range m, (y i - y (i + 1)) * T (i + 1) + y m * T m - y 0 * T 0 := by
  induction m with
  | zero => simp
  | succ m ih => rw [Finset.sum_range_succ, Finset.sum_range_succ, ih]; ring

theorem cum_eq (w : Fin n → ℝ) (i : Fin n) : cum w i = ∑ j ∈ Finset.range (i.val + 1), if h : j < n then w ⟨j, h⟩ else 0 := by
  have h1 : cum w i = ∑ j ∈ Finset.range n, if h : j < n then (if j ≤ i.val then w ⟨j, h⟩ else 0) else 0 := by
    rw [cum, ← Fin.sum_univ_eq_sum_range (fun j => if h : j < n then (if j ≤ i.val then w ⟨j, h⟩ else 0) else 0) n]
    refine Finset.sum_congr rfl fun j _ => ?_
    rw [dif_pos j.isLt]; rfl
  rw [h1]
  symm
  refine (Finset.sum_congr rfl fun j hj => ?_).trans (Finset.sum_subset (Finset.range_mono i.isLt) fun j hj hj' => ?_)
  · have : j ≤ i.val := Nat.lt_succ_iff.mp (Finset.mem_range.mp hj)
    simp only [if_pos this]
  · have : ¬ j ≤ i.val := fun h => hj' (Finset.mem_range.mpr (Nat.lt_succ_of_le h))
    simp [this]

/-- Summation by parts: the quantile sum in the points is the sum in their differences. -/
theorem abel (S : ℝ → ℝ) (h0 : S 0 = 0) (y w : Fin n → ℝ) :
    ∑ i, y i * (S (cum w i) - S (cum w i - w i)) = total S y w := by
  let Y : Nat → ℝ := fun i => if h : i < n then y ⟨i, h⟩ else 0
  let C : Nat → ℝ := fun m => ∑ j ∈ Finset.range m, if h : j < n then w ⟨j, h⟩ else 0
  have hC : ∀ i : Fin n, cum w i = C (i.val + 1) := cum_eq w
  have hC' : ∀ i : Fin n, cum w i - w i = C i.val := fun i => by
    rw [hC]; simp only [C]; rw [Finset.sum_range_succ, dif_pos i.isLt]; ring
  have hY : ∀ i : Fin n, y i = Y i.val := fun i => by simp only [Y, dif_pos i.isLt]
  have hN : ∀ i : Fin n, next y i = Y (i.val + 1) := fun i => rfl
  have hn : Y n = 0 := by simp [Y]
  have hz : S (C 0) = 0 := by simp [C, h0]
  have p := parts Y (fun m => S (C m)) n
  simp only [hn, hz, zero_mul, mul_zero, add_zero, sub_zero] at p
  rw [total]
  refine (Finset.sum_congr rfl fun i _ => ?_).trans ((Fin.sum_univ_eq_sum_range (fun i => Y i * (S (C (i + 1)) - S (C i))) n).trans
    (p.trans ((Fin.sum_univ_eq_sum_range (fun i => (Y i - Y (i + 1)) * S (C (i + 1))) n).symm.trans (Finset.sum_congr rfl fun i _ => ?_))))
  · rw [hC', hC, hY]
  · rw [hC, hN, hY]

/-- Where the sorted points rise the weights so far are those of the points that are no greater. -/
theorem cum_sorted (x w : Fin n → ℝ) (ρ : Equiv.Perm (Fin n)) (hm : Monotone (x ∘ ρ)) (i : Fin n)
    (hi : ∀ h : i.val + 1 < n, x (ρ i) ≠ x (ρ ⟨i.val + 1, h⟩)) :
    cum (w ∘ ρ) i = ∑ p, if x p ≤ x (ρ i) then w p else 0 := by
  rw [cum, ← Equiv.sum_comp ρ (fun p => if x p ≤ x (ρ i) then w p else 0)]
  refine Finset.sum_congr rfl fun j _ => ?_
  have : j ≤ i ↔ x (ρ j) ≤ x (ρ i) := by
    refine ⟨fun h => hm h, fun h => ?_⟩
    by_contra hlt
    have hlt' : i.val < j.val := not_le.mp hlt
    have hb : i.val + 1 < n := by have := j.isLt; omega
    have h1 : x (ρ i) ≤ x (ρ ⟨i.val + 1, hb⟩) := hm (show i ≤ ⟨i.val + 1, hb⟩ from Nat.le_succ _)
    have h2 : x (ρ ⟨i.val + 1, hb⟩) ≤ x (ρ j) := hm (show (⟨i.val + 1, hb⟩ : Fin n) ≤ j from hlt')
    exact hi hb (le_antisymm h1 (h2.trans h))
  simp only [this, Function.comp]

theorem sorted_le (x : Fin n → ℝ) (ρ σ : Equiv.Perm (Fin n)) (hρ : Monotone (x ∘ ρ)) (hσ : Monotone (x ∘ σ)) (i : Fin n) :
    x (σ i) ≤ x (ρ i) := by
  by_contra hlt
  have hs : (Finset.Iic i).map ρ.toEmbedding ⊆ (Finset.Iio i).map σ.toEmbedding := fun p hp => by
    obtain ⟨j, hj, rfl⟩ := Finset.mem_map.mp hp
    have h1 : x (ρ j) ≤ x (ρ i) := hρ (Finset.mem_Iic.mp hj)
    refine Finset.mem_map.mpr ⟨σ.symm (ρ j), Finset.mem_Iio.mpr ?_, Equiv.apply_symm_apply _ _⟩
    by_contra hge
    have h2 := hσ (not_lt.mp hge)
    simp only [Function.comp, Equiv.apply_symm_apply] at h2
    exact hlt (h2.trans h1)
  have := Finset.card_le_card hs
  rw [Finset.card_map, Finset.card_map, Fin.card_Iic, Fin.card_Iio] at this
  omega

/-- Two orders that both sort the points give one sum. -/
theorem total_sorted (S : ℝ → ℝ) (x w : Fin n → ℝ) (ρ σ : Equiv.Perm (Fin n)) (hρ : Monotone (x ∘ ρ)) (hσ : Monotone (x ∘ σ)) :
    total S (x ∘ ρ) (w ∘ ρ) = total S (x ∘ σ) (w ∘ σ) := by
  have e : x ∘ ρ = x ∘ σ := funext fun i => le_antisymm (sorted_le x σ ρ hσ hρ i) (sorted_le x ρ σ hρ hσ i)
  have e' : ∀ i, x (ρ i) = x (σ i) := fun i => congrFun e i
  refine Finset.sum_congr rfl fun i _ => ?_
  rw [← e]
  by_cases h : ∀ h : i.val + 1 < n, x (ρ i) ≠ x (ρ ⟨i.val + 1, h⟩)
  · rw [cum_sorted x w ρ hρ i h, cum_sorted x w σ hσ i (fun hb => by rw [← e', ← e']; exact h hb), e']
  · obtain ⟨hb, h⟩ := not_forall.mp h
    have : (x ∘ ρ) i - next (x ∘ ρ) i = 0 := by
      rw [next, dif_pos hb]; exact sub_eq_zero.mpr (not_not.mp h)
    rw [this, zero_mul, zero_mul]

/-- A point, or the greatest value past the last. -/
def padded {m : Nat} (x : Fin m → ℝ) (p : Nat) : EReal := if h : p < m then ((x ⟨p, h⟩ : ℝ) : EReal) else ⊤

/-- A weight, or 0 past the last. -/
def weighed {m : Nat} (w : Fin m → ℝ) (p : Nat) : EReal := if h : p < m then ((w ⟨p, h⟩ : ℝ) : EReal) else 0

/-- Sorting the padded points leaves the points first. -/
theorem points_first {m N : Nat} (hmN : m ≤ N) (x : Fin m → ℝ) (π : Equiv.Perm (Fin N)) (hm : Monotone fun i => padded x (π i).val) (i : Fin N) :
    (π i).val < m ↔ i.val < m := by
  have low : ∀ i j : Fin N, j ≤ i → (π i).val < m → (π j).val < m := fun i j hj hi => by
    by_contra h
    have h1 := hm hj
    simp only [padded, dif_pos hi, dif_neg h] at h1
    exact (EReal.coe_ne_top _) (top_le_iff.mp h1)
  have card : (Finset.univ.filter fun i : Fin N => (π i).val < m).card = m := by
    rw [← Finset.card_map π.toEmbedding]
    have : (Finset.univ.filter fun i : Fin N => (π i).val < m).map π.toEmbedding = Finset.univ.filter fun p : Fin N => p.val < m := by
      ext p
      simp only [Finset.mem_map, Finset.mem_filter, Finset.mem_univ, true_and, Equiv.coe_toEmbedding]
      exact ⟨fun ⟨a, ha, e⟩ => e ▸ ha, fun h => ⟨π.symm p, by rwa [Equiv.apply_symm_apply], Equiv.apply_symm_apply _ _⟩⟩
    rw [this, Fin.card_filter_val_lt, min_eq_right hmN]
  constructor
  · intro hi
    have hs : (Finset.Iic i) ⊆ Finset.univ.filter fun i : Fin N => (π i).val < m := fun j hj =>
      Finset.mem_filter.mpr ⟨Finset.mem_univ _, low i j (Finset.mem_Iic.mp hj) hi⟩
    have := Finset.card_le_card hs
    rw [card, Fin.card_Iic] at this
    omega
  · intro hi
    by_contra hn
    have hs : (Finset.univ.filter fun i : Fin N => (π i).val < m) ⊆ Finset.Iio i := fun j hj => by
      rw [Finset.mem_Iio]
      by_contra hji
      exact hn (low j i (not_lt.mp hji) (Finset.mem_filter.mp hj).2)
    have := Finset.card_le_card hs
    rw [card, Fin.card_Iio] at this
    omega

/-- So the first places hold the points in sorted order with their weights, and the others weigh nothing. -/
theorem sorted_points {m N : Nat} (hmN : m ≤ N) (x w : Fin m → ℝ) (π : Equiv.Perm (Fin N)) (hm : Monotone fun i => padded x (π i).val) :
    ∃ ρ : Equiv.Perm (Fin m), Monotone (x ∘ ρ) ∧ (∀ i : Fin N, padded x (π i).val = padded (x ∘ ρ) i.val)
      ∧ ∀ i : Fin N, weighed w (π i).val = weighed (w ∘ ρ) i.val := by
  have hp := points_first hmN x π hm
  let f : Fin m → Fin m := fun i => ⟨(π (i.castLE hmN)).val, (hp _).mpr i.isLt⟩
  have hf : Function.Injective f := fun i j h => by
    have h1 : (π (i.castLE hmN)).val = (π (j.castLE hmN)).val := congrArg (fun a : Fin m => a.val) h
    exact Fin.castLE_injective hmN (π.injective (Fin.ext h1))
  have hx : ∀ i : Fin N, padded x (π i).val = padded (x ∘ f) i.val := fun i => by
    by_cases h : i.val < m
    · simp only [padded, dif_pos h, dif_pos ((hp i).mpr h)]; rfl
    · simp only [padded, dif_neg h, dif_neg (fun q => h ((hp i).mp q))]
  have hw : ∀ i : Fin N, weighed w (π i).val = weighed (w ∘ f) i.val := fun i => by
    by_cases h : i.val < m
    · simp only [weighed, dif_pos h, dif_pos ((hp i).mpr h)]; rfl
    · simp only [weighed, dif_neg h, dif_neg (fun q => h ((hp i).mp q))]
  refine ⟨Equiv.ofBijective f (Finite.injective_iff_bijective.mp hf), fun i j hij => ?_, hx, hw⟩
  have h1 := hm (show i.castLE hmN ≤ j.castLE hmN from hij)
  simp only [hx] at h1
  simp only [padded, Fin.val_castLE, dif_pos i.isLt, dif_pos j.isLt] at h1
  exact EReal.coe_le_coe_iff.mp h1

/-- A point, or 0 past the last. -/
def masked {m : Nat} (y : Fin m → ℝ) (p : Nat) : ℝ := if h : p < m then y ⟨p, h⟩ else 0

/-- The sum over all the places is the sum over the points. -/
theorem total_padded {m N : Nat} (hmN : m ≤ N) (S : ℝ → ℝ) (y w : Fin m → ℝ) (c s : Fin N → EReal)
    (hs : ∀ i : Fin N, ∀ h : i.val < m, c i = ((cum w ⟨i.val, h⟩ : ℝ) : EReal) → s i = ((S (cum w ⟨i.val, h⟩) : ℝ) : EReal))
    (hc : ∀ i : Fin N, c i = ∑ j : Fin N, if j ≤ i then weighed w j.val else 0) :
    ∑ i : Fin N, ((masked y i.val - masked y (i.val + 1) : ℝ) : EReal) * s i = ((total S y w : ℝ) : EReal) := by
  have hcoe : ∀ {k : Nat} (f : Fin k → ℝ), ((∑ i, f i : ℝ) : EReal) = ∑ i, ((f i : ℝ) : EReal) := fun f => by
    exact map_sum (⟨⟨Real.toEReal, EReal.coe_zero⟩, EReal.coe_add⟩ : ℝ →+ EReal) f Finset.univ
  obtain ⟨d, rfl⟩ := Nat.exists_eq_add_of_le hmN
  have split : ∀ g : Fin (m + d) → EReal, (∀ i : Fin d, g (Fin.natAdd m i) = 0) → ∑ i, g i = ∑ i : Fin m, g (Fin.castAdd d i) := fun g hg => by
    rw [Fin.sum_univ_add, Finset.sum_eq_zero (fun i _ => hg i), add_zero]
  rw [split _ fun i => ?_, total, hcoe]
  · refine Finset.sum_congr rfl fun i _ => ?_
    have hi : (Fin.castAdd d i).val < m := i.isLt
    have h1 : c (Fin.castAdd d i) = ((cum w i : ℝ) : EReal) := by
      rw [hc, split _ fun j => ?_, cum, hcoe]
      · refine Finset.sum_congr rfl fun j _ => ?_
        by_cases h : j ≤ i
        · rw [if_pos h, if_pos (show Fin.castAdd d j ≤ Fin.castAdd d i from h)]
          simp [weighed]
        · rw [if_neg h, if_neg (show ¬ Fin.castAdd d j ≤ Fin.castAdd d i from h), EReal.coe_zero]
      · simp [weighed]
    rw [hs _ hi h1, EReal.coe_mul]
    congr 3
    simp [masked]
  · simp only [masked, Fin.val_natAdd]
    rw [dif_neg (by omega), dif_neg (by omega), sub_zero, EReal.coe_zero, zero_mul]

end Cert.Quantile
-- ==== Proof.Lane.lean ====
/- One example and one direction of a block: what the block writes there is the sum over the sorted points. -/
module

public import proofs.«01_k».proof.Proof.Start
public import proofs.«01_k».proof.Proof.Abel

@[expose] public section

noncomputable section

namespace Cert.KernelIdeal.Payload

open Idealize.ShloMosaic Idealize.SL.Sem Cert.KernelIdeal Cert.KernelIdeal.Gen Idealize.ShloMosaic.Pointwise
open Cert.KernelIdeal.Sort (spot spot_lt lane rowOf sorted_lane)
open Cert.KernelIdeal.Operands (spot_spot)
open Cert.Quantile

set_option maxRecDepth 16384

/-- The places of the ranks. -/
def spots : Equiv.Perm (Fin (2 ^ 8)) where
  toFun i := ⟨spot i.val, spot_lt i⟩
  invFun i := ⟨spot i.val, spot_lt i⟩
  left_inv i := Fin.ext (spot_spot i)
  right_inv i := Fin.ext (spot_spot i)

theorem row_spots (e : Fin 4) (i : Fin (2 ^ 8)) : (rowOf e i : Fin 1024) = row e (spots i) := rfl

/-- A sum over all the rows that asks for one example's is the sum over the ranks. -/
theorem sum_owner (f : Fin 1024 → EReal) (e : Fin 4) :
    ∑ r : Fin 1024, (if r.val / 256 = e.val then (1 : EReal) else 0) * f r = ∑ i : Fin (2 ^ 8), f (row e (spots i)) := by
  rw [Equiv.sum_comp spots (fun k => f (row e k)), ← Equiv.sum_comp (finProdFinEquiv (m := 4) (n := 256)), Fintype.sum_prod_type]
  have hv : ∀ (a : Fin 4) (k : Fin 256), (finProdFinEquiv (a, k) : Fin (4 * 256)).val = k.val + 256 * a.val := fun a k => rfl
  rw [Finset.sum_eq_single e]
  · refine Finset.sum_congr rfl fun k _ => ?_
    rw [if_pos (by have := hv e k; have := k.isLt; omega), one_mul]
    exact congrArg f (Fin.ext ((hv e k).trans (Nat.add_comm _ _)))
  · intro a _ ha
    refine Finset.sum_eq_zero fun k _ => ?_
    rw [if_neg (by
      have := hv a k; have := k.isLt
      have hne : a.val ≠ e.val := fun h => ha (Fin.ext h)
      omega), zero_mul]
  · intro h
    exact absurd (Finset.mem_univ _) h

theorem coe_sum {k : Nat} (f : Fin k → ℝ) : ((∑ i, f i : ℝ) : EReal) = ∑ i, ((f i : ℝ) : EReal) :=
  map_sum (⟨⟨Real.toEReal, EReal.coe_zero⟩, EReal.coe_add⟩ : ℝ →+ EReal) f Finset.univ

/-- The row of differences. -/
theorem sum_steps {m : Nat} (hm : m ≤ 255) (y : Fin m → ℝ) (i : Fin (2 ^ 8)) :
    ∑ j : Fin (2 ^ 8), ((if j = i then (1 : EReal) else 0) - (if j.val = i.val + 1 then 1 else 0)) * ((masked y j.val : ℝ) : EReal)
      = ((masked y i.val - masked y (i.val + 1) : ℝ) : EReal) := by
  have ht : ∀ j : Fin (2 ^ 8), ((if j = i then (1 : EReal) else 0) - (if j.val = i.val + 1 then 1 else 0)) * ((masked y j.val : ℝ) : EReal)
      = (((if j = i then masked y j.val else 0) - (if j.val = i.val + 1 then masked y j.val else 0) : ℝ) : EReal) := fun j => by
    by_cases h1 : j = i <;> by_cases h2 : j.val = i.val + 1 <;> simp [h1, h2, ← EReal.coe_neg]
  rw [Finset.sum_congr rfl fun j _ => ht j, ← coe_sum, Finset.sum_sub_distrib]
  congr 2
  · rw [Finset.sum_ite_eq' Finset.univ i]
    exact if_pos (Finset.mem_univ _)
  · by_cases h : i.val + 1 < 2 ^ 8
    · rw [Finset.sum_eq_single (⟨i.val + 1, h⟩ : Fin (2 ^ 8))]
      · exact if_pos rfl
      · intro b _ hb
        exact if_neg fun q => hb (Fin.ext q)
      · intro q
        exact absurd (Finset.mem_univ _) q
    · rw [Finset.sum_eq_zero fun j _ => if_neg (by have := j.isLt; omega)]
      rw [masked, dif_neg (show ¬ i.val + 1 < m by omega)]

/-- What the block writes at an example and a direction. -/
theorem lane_value (x0 : FVec Ideal S800x64 .f32) (x1 : FVec Ideal S1024x1 .f32) (x2 : FVec Ideal S64x128 .f32) (x3 : FVec Ideal S512x256 .f32)
    (x4 : FVec Ideal S4x1024 .f32) (x5 : FVec Ideal S1x128 .f32) (e : Fin 4) (q : Fin 128) (x w : Fin 200 → ℝ) (φ : ℝ)
    (st : Sort.St Ideal) (hst : st = (Sort.key0 (F := Ideal) x0 x2, Sort.val0 (F := Ideal) x1))
    (hx : ∀ n : Fin 200, ∑ d : Fin 64, x0 (ix2 ⟨200 * e.val + n.val, by omega⟩ d) * x2 (ix2 d q) = ((x n : ℝ) : EReal))
    (hw : ∀ p : Fin 256, x1 (ix2 (row e p) 0) = weighed w p.val)
    (h3 : ∀ i j : Fin (2 ^ 8), x3 (ix2 ⟨spot i.val, (spot_lt i).trans (by decide)⟩ ⟨spot j.val, spot_lt j⟩) = if j ≤ i then (1 : EReal) else 0)
    (h3' : ∀ i j : Fin (2 ^ 8), x3 (ix2 ⟨256 + spot i.val, by have := spot_lt i; omega⟩ ⟨spot j.val, spot_lt j⟩)
      = (if j = i then (1 : EReal) else 0) - (if j.val = i.val + 1 then 1 else 0))
    (h4 : ∀ r : Fin 1024, x4 (ix2 e r) = if r.val / 256 = e.val then (1 : EReal) else 0)
    (h5 : x5 (ix2 0 q) = ((φ : ℝ) : EReal)) :
    ∃ ρ : Equiv.Perm (Fin 200), Monotone (x ∘ ρ)
      ∧ ∑ r : Fin 1024, x4 (ix2 e r) * waves (Sort.sorted st).1 (Sort.sorted st).2 x3 x5 (ix2 r q)
        = ((total (fun y => Real.sin (y * φ)) (x ∘ ρ) (w ∘ ρ) : ℝ) : EReal) := by
  subst hst
  obtain ⟨hm, τ, hk, hv⟩ := sorted_lane (Sort.key0 (F := Ideal) x0 x2, Sort.val0 (F := Ideal) x1) e q
  generalize (Sort.sorted (Sort.key0 (F := Ideal) x0 x2, Sort.val0 (F := Ideal) x1)).1 = key at hm hk
  generalize (Sort.sorted (Sort.key0 (F := Ideal) x0 x2, Sort.val0 (F := Ideal) x1)).2 = val at hv
  have hk1 : ∀ i : Fin (2 ^ 8), key (ix2 (row e (spots i)) q) = padded x (spots (τ i)).val := fun i => by
    refine (congrFun hk i).trans ((key0_at x0 x2 e (spots (τ i)) q).trans ?_)
    unfold padded
    by_cases h : (spots (τ i)).val < 200
    · rw [dif_pos h, dif_pos h]
      exact hx ⟨_, h⟩
    · rw [dif_neg h, dif_neg h]
  have hv1 : ∀ i : Fin (2 ^ 8), val (ix2 (row e (spots i)) q) = weighed w (spots (τ i)).val := fun i =>
    (congrFun hv i).trans ((val0_at x1 _ q).trans (hw (spots (τ i))))
  have hm1 : Monotone fun i => padded x ((τ.trans spots) i).val := fun i j hij => by
    have := hm hij
    simp only [Function.comp, lane] at this
    exact ((hk1 i).symm.trans_le this).trans_eq (hk1 j)
  obtain ⟨ρ, hρ, hkρ, hvρ⟩ := sorted_points (by decide) x w (τ.trans spots) hm1
  refine ⟨ρ, hρ, ?_⟩
  simp only [h4]
  rw [sum_owner]
  have hc : ∀ i : Fin (2 ^ 8), ∑ k : Fin 256, x3 (ix2 ⟨(spots i).val, (spot_lt i).trans (by decide)⟩ k) * val (ix2 (row e k) q)
      = ∑ j : Fin (2 ^ 8), if j ≤ i then weighed (w ∘ ρ) j.val else 0 := fun i => by
    refine (Equiv.sum_comp spots _).symm.trans (Finset.sum_congr rfl fun j _ => ?_)
    refine (congrArg₂ (· * ·) (h3 i j) ((hv1 j).trans (hvρ j))).trans ?_
    by_cases h : j ≤ i
    · simp only [if_pos h, one_mul]
    · simp only [if_neg h, zero_mul]
  have ht : ∀ i : Fin (2 ^ 8), ∑ k : Fin 256, x3 (ix2 ⟨256 + (spots i).val, by have := spot_lt i; show 256 + spot i.val < 512; omega⟩ k) * keptKeys key (ix2 (row e k) q)
      = ((masked (x ∘ ρ) i.val - masked (x ∘ ρ) (i.val + 1) : ℝ) : EReal) := fun i => by
    rw [← sum_steps (by decide) (x ∘ ρ) i]
    refine (Equiv.sum_comp spots _).symm.trans (Finset.sum_congr rfl fun j _ => congrArg₂ (· * ·) (h3' i j) ?_)
    refine (keptKeys_at key e j q).trans ?_
    unfold masked
    by_cases h : j.val < 200
    · rw [if_pos h, dif_pos h]
      refine (hk1 j).trans ((hkρ j).trans ?_)
      exact dif_pos h
    · rw [if_neg h, dif_neg h, EReal.coe_zero]
  rw [← total_padded (by decide) (fun y => Real.sin (y * φ)) (x ∘ ρ) (w ∘ ρ) _
    (fun i : Fin (2 ^ 8) => Ideal.sin ((∑ j : Fin (2 ^ 8), if j ≤ i then weighed (w ∘ ρ) j.val else 0) * ((φ : ℝ) : EReal)))
    (fun i h hi => ?_) (fun i => rfl)]
  · refine Finset.sum_congr rfl fun i _ => ?_
    refine (waves_at key val x3 x5 e (spots i) q).trans ?_
    rw [h5]
    exact congrArg₂ (· * ·) (ht i) (congrArg (fun z => Ideal.sin (z * ((φ : ℝ) : EReal))) (hc i))
  · beta_reduce
    rw [hi, ← EReal.coe_mul]
    rfl

end Cert.KernelIdeal.Payload
-- ==== Proof.KernelValue.lean ====
/- The kernel's result at an example and a direction, and its run. -/
module

public import proofs.«01_k».proof.Proof.Blocks
public import proofs.«01_k».proof.Proof.Lane

@[expose] public section

noncomputable section

namespace Cert.KernelIdeal.Blocks

open Idealize.ShloMosaic Idealize.ShloMosaic.TcCoe Idealize.SL.Sem Cert.KernelIdeal Cert.KernelIdeal.Gen Idealize.ShloMosaic.Pointwise
open Cert.KernelIdeal.Operands Cert.Quantile

set_option maxRecDepth 16384

variable (m : (ℓ : Loc nD τ sig) → Buf (Elt Ideal) ℓ) (ρ : Dev nD → PrngReg) (c : Dev nD)

/-- What the kernel computes. -/
def out : FVec Ideal S1024x128 .f32 := shapeCast S1024x128 (result m c) shapeCasts_S256x4x128_S1024x128

/-- The point that writes an example. -/
def pointOf (b : Fin 1024) : Fin cfg0.N := ⟨b.val / 4, lt_of_lt_of_eq (by omega : b.val / 4 < 256) N_0.symm⟩

/-- The example's place in its block. -/
def placeOf (b : Fin 1024) : Fin 4 := ⟨b.val % 4, by omega⟩

theorem out_written (b : Fin 1024) (q : Fin 128) : out m c (ix2 b q) = written m c (pointOf b) (ix3 0 (placeOf b) q) := by
  refine (shapeCast_apply (result m c) shapeCasts_S256x4x128_S1024x128 _ (ix3 ⟨b.val / 4, by omega⟩ (placeOf b) q) (by
    rw [Shape.rowMajor_val_two, Shape.rowMajor_val_three]
    show (b.val / 4 * 4 + b.val % 4) * 128 + q.val = b.val * 128 + q.val
    omega)).trans rfl

/-- The operands at a block: the points of the block's examples, and their weights. -/
theorem points_blk (b : Fin 1024) (n : Fin 200) (d : Fin 64) :
    iblk m c 0 (pointOf b) (ix2 ⟨200 * (placeOf b).val + n.val, by have := (placeOf b).isLt; omega⟩ d) = points m c (ix3 b n d) :=
  (blk0 m c (pointOf b) _ d).trans (points_at m c b n d _ (by
    show b.val / 4 * 800 + (200 * (b.val % 4) + n.val) = b.val * 200 + n.val
    omega))

theorem weights_blk (b : Fin 1024) (p : Fin 256) :
    iblk m c 1 (pointOf b) (ix2 (Payload.row (placeOf b) p) 0) = if h : p.val < 200 then normal (weights m c) b ⟨p.val, h⟩ else 0 :=
  (blk1 m c (pointOf b) _).trans (weights_at m c b p _ (by
    show b.val / 4 * 1024 + (256 * (b.val % 4) + p.val) = b.val * 256 + p.val
    omega))

theorem out_at_real (b : Fin 1024) (q : Fin 128) (x w : Fin 200 → ℝ) (φ : ℝ)
    (hx : ∀ n, ∑ d : Fin 64, points m c (ix3 b n d) * slices m c (ix2 q d) = ((x n : ℝ) : EReal))
    (hw : ∀ n, normal (weights m c) b n = ((w n : ℝ) : EReal)) (hf : piWord * freqs m c (ix1 q) = ((φ : ℝ) : EReal)) :
    ∃ σ : Equiv.Perm (Fin 200), Monotone (x ∘ σ) ∧ out m c (ix2 b q)
      = ((Real.sqrt 2 : ℝ) : EReal) * ((total (fun y => Real.sin (y * φ)) (x ∘ σ) (w ∘ σ) : ℝ) : EReal) * Ideal.div 1 (φ : EReal) := by
  obtain ⟨σ, hσ, h⟩ := Payload.lane_value (iblk m c 0 (pointOf b)) (iblk m c 1 (pointOf b)) (iblk m c 2 (pointOf b)) (iblk m c 3 (pointOf b))
    (iblk m c 4 (pointOf b)) (iblk m c 5 (pointOf b)) (placeOf b) q x w φ _ rfl
    (fun n => (Finset.sum_congr rfl fun d _ => congrArg₂ (fun u v : EReal => u * v) (points_blk m c b n d) ((blk2 m c _ d q).trans (slices_at m c d q))).trans (hx n))
    (fun p => (weights_blk m c b p).trans (by
      unfold weighed
      by_cases h : p.val < 200
      · rw [dif_pos h, dif_pos h]
        exact hw _
      · rw [dif_neg h, dif_neg h]))
    (fun i j => (blk3 m c _ _ _).trans (runs_at m c i j)) (fun i j => (blk3 m c _ _ _).trans (steps_at m c i j))
    (fun r => (blk4 m c _ _ _).trans (owner_at m c _ r)) ((blk5 m c _ q).trans ((freqs_at m c q).trans hf))
  refine ⟨σ, hσ, (out_written m c b q).trans ((out_at _ _ _ _ _ _ _ _ q).trans ?_)⟩
  rw [h]
  exact congrArg _ ((blk6 m c _ q).trans ((periods_at m c q).trans (by rw [hf])))

theorem out_at_zero (b : Fin 1024) (q : Fin 128) (hf : Ideal.div 1 (piWord * freqs m c (ix1 q)) = 0) : out m c (ix2 b q) = 0 := by
  refine (out_written m c b q).trans ((out_at _ _ _ _ _ _ _ _ q).trans ?_)
  rw [show iblk m c 6 (pointOf b) (ix2 0 q) = (0 : EReal) from (blk6 m c _ q).trans ((periods_at m c q).trans hf)]
  exact mul_zero _

/-- The kernel's run. -/
theorem run : θ_run defs (onTc (τ := τ) (main (F := Ideal))) ⟨m, fun _ => 0, ρ⟩ fun r => ∀ c : Dev nD,
      r.2.mem ((c.tc : Thread nD τ).loc main_v61) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  run_from (Gen.run_main m ρ) & (Gen.unchanged m ρ)
  unfold Pipeline.afterTail₀
  have h := (Pipeline.withArrays_arr (cfgs 0).spec (by decide) c (V0 m c) (fun w => (dats m 0 c).arrAt w (cfgs 0).N) 7).trans (arr_eq m c)
  simp only [hostOps1, List.flatten_cons, List.flatten_nil, List.append_nil]
  after_results
  unfold out
  exact congrArg (fun v : FVec Ideal S256x4x128 .f32 => shapeCast S1024x128 v shapeCasts_S256x4x128_S1024x128) h

end Cert.KernelIdeal.Blocks
-- ==== Proof.Take.lean ====
/- The reference's three host operations that are not read entry by entry: the sort, the take along the sorted axis, and the running sum. -/
module

public import proofs.«01_k».proof.Proof.Gen.ReferenceIdeal
public import proofs.«01_k».proof.Proof.Abel
public import Idealize.ShloMosaic.Lib.Pointwise
public import Idealize.ShloMosaic.Lib.SortFacts
public import Idealize.ShloMosaic.Lib.ReduceAll

@[expose] public section

noncomputable section

namespace Cert.ReferenceIdeal.Take

open Idealize.ShloMosaic Cert.ReferenceIdeal Cert.ReferenceIdeal.Gen Idealize.ShloMosaic.Pointwise

set_option maxRecDepth 16384

/-! ## The sort -/

/-- The places of the points in sorted order. -/
def order (p : FVec Ideal S1024x200x128 .f32) : IVec S1024x200x128 32 :=
  (Host.sort2 S1024x200x128 1 comparator_f32_i32_d1 p (iotaInDim S1024x200x128 32 1)).2

/-- The comparator asks whether the first key is the smaller. -/
theorem before (l r : Ideal .f32 × BitVec 32) : (comparator_f32_i32_d1 (F := Ideal) l r == 1#1) = decide ((l.1 : EReal) < r.1) := by
  have same : ∀ a : EReal, Scalar.select (FloatOps.cmpf (F := Ideal) (φ := .f32) .une a a) (Ideal.ofBits .f32 0x7FC00000#32)
      (Scalar.select (FloatOps.cmpf (F := Ideal) (φ := .f32) .oeq a (Ideal.ofBits .f32 0x00000000#32)) (Ideal.ofBits .f32 0x00000000#32) a) = a := by
    intro a
    have h1 : FloatOps.cmpf (F := Ideal) (φ := .f32) .une a a = 0#1 := by
      show BitVec.ofBool (decide (a ≠ a)) = 0#1
      rw [decide_eq_false (fun h => h rfl)]
      rfl
    rw [h1, Ideal.ofBits_zero_f32]
    show Scalar.select (BitVec.ofBool (decide (a = 0))) (0 : EReal) a = a
    by_cases h : a = 0
    · rw [decide_eq_true h, h]
      rfl
    · rw [decide_eq_false h]
      rfl
  have h : comparator_f32_i32_d1 (F := Ideal) l r = BitVec.ofBool (decide ((l.1 : EReal) < r.1)) := by
    refine Eq.trans ?_ (congrArg₂ (fun a b : EReal => BitVec.ofBool (decide (a < b))) (same l.1) (same r.1))
    rfl
  rw [h]
  cases decide ((l.1 : EReal) < r.1) <;> rfl

/-- The sorting permutation of a stable sort. -/
def sorting {n : Nat} (f : Fin n → Fin n → Bool) : Equiv.Perm (Fin n) :=
  Equiv.ofBijective (sortedFrom f) ⟨sortedFrom_injective _, sortedFrom_surjective _⟩

theorem sorting_apply {n : Nat} (f : Fin n → Fin n → Bool) (i : Fin n) : sorting f i = sortedFrom f i := rfl

theorem sorting_sorted {n : Nat} (x : Fin n → ℝ) : Monotone (x ∘ sorting fun k k' => decide (x k < x k')) :=
  monotone_iff_forall_lt.2 fun i j hij =>
    not_lt.1 (of_decide_eq_false (sortedFrom_noInversion (fun k k' : Fin n => decide (x k < x k')) (fun k k' : Fin n => decide (x k < x k'))
      (fun _ _ h => decide_eq_false (lt_asymm (of_decide_eq_true h))) (fun _ _ h => h)
      (fun _ _ _ h h' => decide_eq_false (not_lt.2 (le_trans (not_lt.1 (of_decide_eq_false h')) (not_lt.1 (of_decide_eq_false h))))) i j hij))

/-- The second operand of a sort by two. -/
theorem second_at {s : Shape} {α β : Type} (a : Fin s.rank) (cmp : α × β → α × β → BitVec 1) (x : s.Idx → α) (y : s.Idx → β) (j : s.Idx) :
    (Host.sort2 s a.val cmp x y).2 j
      = y (j.along a (sorting (fun k k' => cmp (x (j.along a k), y (j.along a k)) (x (j.along a k'), y (j.along a k')) == 1#1) (j a))) := by
  unfold Host.sort2
  rw [dif_pos a.isLt]
  rfl

/-- The place of an example's point in sorted order, for one slice. -/
def place (p : FVec Ideal S1024x200x128 .f32) (b : Fin 1024) (q : Fin 128) : Equiv.Perm (Fin 200) :=
  sorting fun k k' : Fin 200 => decide ((p (ix3 b k q) : EReal) < p (ix3 b k' q))

theorem along (b : Fin 1024) (i k : Fin 200) (q : Fin 128) : (ix3 b i q : S1024x200x128.Idx).along 1 k = ix3 b k q := by
  funext a
  match a with
  | ⟨0, _⟩ => rfl
  | ⟨1, _⟩ => rfl
  | ⟨2, _⟩ => rfl

theorem iota_along (b : Fin 1024) (i k : Fin 200) (q : Fin 128) :
    iotaInDim S1024x200x128 32 1 ((ix3 b i q : S1024x200x128.Idx).along 1 k) = BitVec.ofNat 32 k.val := by
  rw [along]
  rfl

theorem order_at (p : FVec Ideal S1024x200x128 .f32) (b : Fin 1024) (i : Fin 200) (q : Fin 128) :
    order p (ix3 b i q) = BitVec.ofNat 32 (place p b q i).val := by
  have h := second_at (s := S1024x200x128) 1 (comparator_f32_i32_d1 (F := Ideal)) p (iotaInDim S1024x200x128 32 1) (ix3 b i q)
  have keys : (fun k k' : Fin 200 =>
      comparator_f32_i32_d1 (F := Ideal) (p ((ix3 b i q : S1024x200x128.Idx).along 1 k), iotaInDim S1024x200x128 32 1 ((ix3 b i q : S1024x200x128.Idx).along 1 k))
        (p ((ix3 b i q : S1024x200x128.Idx).along 1 k'), iotaInDim S1024x200x128 32 1 ((ix3 b i q : S1024x200x128.Idx).along 1 k')) == 1#1)
      = fun k k' => decide ((p (ix3 b k q) : EReal) < p (ix3 b k' q)) :=
    funext fun k => funext fun k' =>
      (before _ _).trans (congrArg₂ (fun u v : S1024x200x128.Idx => decide ((p u : EReal) < p v)) (along b i k q) (along b i k' q))
  exact h.trans ((congrArg (fun f : Fin 200 → Fin 200 → Bool => iotaInDim S1024x200x128 32 1 ((ix3 b i q : S1024x200x128.Idx).along 1 (sorting f i))) keys).trans
    (iota_along b i (place p b q i) q))

theorem place_sorted (p : FVec Ideal S1024x200x128 .f32) (b : Fin 1024) (q : Fin 128) (x : Fin 200 → ℝ)
    (hx : ∀ n, p (ix3 b n q) = ((x n : ℝ) : EReal)) : Monotone (x ∘ place p b q) := by
  have keys : (fun k k' : Fin 200 => decide ((p (ix3 b k q) : EReal) < p (ix3 b k' q))) = fun k k' => decide (x k < x k') :=
    funext fun k => funext fun k' => by
      rw [hx, hx]
      exact decide_eq_decide.2 EReal.coe_lt_coe_iff
  have e : place p b q = sorting fun k k' => decide (x k < x k') := congrArg sorting keys
  rw [e]
  exact sorting_sorted x

/-! ## The take -/

/-- The places as the take reads them: a negative one counted from the end. -/
def wrapped (i : IVec S1024x200x128 32) : IVec S1024x200x128x1 32 :=
  shapeCast S1024x200x128x1 (select (cmpi .slt i (broadcastInDim S1024x200x128 ![] bcast_S_S1024x200x128 (constantI S_ 32 0#32)))
    (addi i (broadcastInDim S1024x200x128 ![] bcast_S_S1024x200x128 (constantI S_ 32 200#32))) i) shapeCasts_S1024x200x128_S1024x200x128x1

/-- Whether a place is a place of the axis. -/
def inside (j : IVec S1024x200x128x1 32) : IVec S1024x200x128 1 :=
  Host.reduce IntOp.andi (andi (cmpi .sge j (broadcastInDim S1024x200x128x1 ![] bcast_S_S1024x200x128x1 (constantI S_ 32 0#32)))
    (cmpi .sle j (broadcastInDim S1024x200x128x1 ![0, 1, 2, 3] bcast_S1x1x1x1_S1024x200x128x1_0_1_2_3
      (broadcastInDim S1x1x1x1 ![3] bcast_S1_S1x1x1x1_3 (constantI S1 32 199#32))))) (constantI S_ 1 1#1)
    reducesTo_S1024x200x128x1_S1024x200x128_d3 h_S_

/-- The entries of an array at the given places along the middle axis. -/
def take (x : FVec Ideal S1024x200x128 .f32) (i : IVec S1024x200x128 32) : FVec Ideal S1024x200x128 .f32 :=
  select (inside (wrapped i)) (Host.gather gather_S1024x200x128_S1024x200x128x1_S1024x200x128_n_1_02_02_1_3_111 x (wrapped i))
    (broadcastInDim S1024x200x128 ![] bcast_S_S1024x200x128 (constant S_ .f32 0x7FC00000#32))

theorem word_lt {k : Nat} (hk : k < 200) : (BitVec.ofNat 32 k).toInt = k := by
  rw [BitVec.toInt_ofNat']
  simp only [Int.bmod]
  omega

/-- The four coordinates of a place's index. -/
theorem place_idx (j : S1024x200x128x1.Idx) : ∃ (b : Fin 1024) (n : Fin 200) (q : Fin 128), j = ix4 b n q (0 : Fin 1) := by
  refine ⟨j 0, j 1, j 2, ?_⟩
  funext a
  match a with
  | ⟨0, _⟩ => rfl
  | ⟨1, _⟩ => rfl
  | ⟨2, _⟩ => rfl
  | ⟨3, _⟩ => exact Subsingleton.elim (α := Fin 1) _ _

theorem wrapped_at (i : IVec S1024x200x128 32) (b : Fin 1024) (n : Fin 200) (q : Fin 128) {k : Nat} (hk : k < 200)
    (h : i (ix3 b n q) = BitVec.ofNat 32 k) : wrapped i (ix4 b n q 0) = BitVec.ofNat 32 k := by
  refine (shapeCast_apply _ shapeCasts_S1024x200x128_S1024x200x128x1 _ (ix3 b n q) (by
    rw [Shape.rowMajor_val_three, Shape.rowMajor_val_four]
    show (b.val * 200 + n.val) * 128 + q.val = ((b.val * 200 + n.val) * 128 + q.val) * 1 + 0
    omega)).trans ?_
  show Scalar.select (IntOp.cmpi .slt (i (ix3 b n q)) 0#32) (IntOp.addi (i (ix3 b n q)) 200#32) (i (ix3 b n q)) = _
  rw [h]
  have : IntOp.cmpi .slt (BitVec.ofNat 32 k) 0#32 = 0#1 := by
    show BitVec.ofBool (BitVec.slt _ _) = 0#1
    rw [BitVec.slt_eq_decide, word_lt hk, decide_eq_false (by simp)]
    rfl
  rw [this]
  rfl

theorem gather_at (x : FVec Ideal S1024x200x128 .f32) (j : IVec S1024x200x128x1 32) (b : Fin 1024) (n : Fin 200) (q : Fin 128) (k : Fin 200)
    (h : j (ix4 b n q 0) = BitVec.ofNat 32 k.val) :
    Host.gather gather_S1024x200x128_S1024x200x128x1_S1024x200x128_n_1_02_02_1_3_111 x j (ix3 b n q) = x (ix3 b k q) := by
  unfold Host.gather
  congr 1
  funext a
  refine Fin.ext ?_
  let G := gather_S1024x200x128_S1024x200x128x1_S1024x200x128_n_1_02_02_1_3_111
  show G.start (ix3 b n q) j a + G.batchCoord (ix3 b n q) a + G.offCoord (ix3 b n q) a = _
  have ha : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  have kept : G.offCoord (ix3 b n q) a = 0 := GatherDims.offCoord_eq_zero _ _ _ (fun h => by
    have h' := (GatherDims.mem_sKept _ _).mp h
    rcases ha with rfl | rfl | rfl
    · exact h'.2 (by decide)
    · exact h'.1 (by decide)
    · exact h'.2 (by decide))
  rw [kept]
  rcases ha with rfl | rfl | rfl
  · rw [GatherDims.start_batching _ _ _ _ (by decide)]
    simp only [Nat.zero_add, Nat.add_zero]
    unfold GatherDims.batchCoord
    rw [dif_pos (by decide)]
    rfl
  · rw [GatherDims.batchCoord_eq_zero _ _ _ (by decide)]
    simp only [Nat.add_zero]
    unfold GatherDims.start
    rw [dif_pos (by decide)]
    have hs : G.siIdx (ix3 b n q) ⟨List.idxOf (1 : Fin 3) G.startIndexMap, List.idxOf_lt_length_iff.2 (by decide)⟩ = ix4 b n q 0 := by
      funext e
      refine Fin.ext ?_
      match e with
      | ⟨0, _⟩ => rfl
      | ⟨1, _⟩ => rfl
      | ⟨2, _⟩ => rfl
      | ⟨3, _⟩ => rfl
    show min (j (G.siIdx (ix3 b n q) ⟨List.idxOf (1 : Fin 3) G.startIndexMap, List.idxOf_lt_length_iff.2 (by decide)⟩)).toInt.toNat (200 - 1) = k.val
    rw [hs, h, word_lt k.isLt]
    have := k.isLt
    simp only [Int.toNat_natCast]
    omega
  · rw [GatherDims.start_batching _ _ _ _ (by decide)]
    simp only [Nat.zero_add, Nat.add_zero]
    unfold GatherDims.batchCoord
    rw [dif_pos (by decide)]
    rfl

theorem select_one {s : Shape} {α : Type} (c : IVec s 1) (x y : s.Idx → α) (i : s.Idx) (h : c i = 1#1) : select c x y i = x i := by
  show Scalar.select (c i) (x i) (y i) = x i
  rw [h]
  rfl

/-- A take at places that are places of the axis. -/
theorem take_at (x : FVec Ideal S1024x200x128 .f32) (i : IVec S1024x200x128 32) (k : Fin 1024 → Fin 200 → Fin 128 → Fin 200)
    (h : ∀ b n q, i (ix3 b n q) = BitVec.ofNat 32 (k b n q).val) (b : Fin 1024) (n : Fin 200) (q : Fin 128) :
    take x i (ix3 b n q) = x (ix3 b (k b n q) q) := by
  have hin : inside (wrapped i) (ix3 b n q) = 1#1 := by
    refine Host.reduce_andi_one _ _ _ _ _ rfl fun j => ?_
    obtain ⟨b', n', q', rfl⟩ := place_idx j
    show IntOp.andi (IntOp.cmpi .sge (wrapped i _) 0#32) (IntOp.cmpi .sle (wrapped i _) 199#32) = 1#1
    rw [wrapped_at i _ _ _ (k _ _ _).isLt (h _ _ _)]
    have h0 := word_lt (k b' n' q').isLt
    have hk := (k b' n' q').isLt
    have a1 : IntOp.cmpi .sge (BitVec.ofNat 32 (k b' n' q').val) 0#32 = 1#1 := by
      show BitVec.ofBool (BitVec.sle _ _) = 1#1
      rw [BitVec.sle_eq_decide, h0, decide_eq_true (by simp)]
      rfl
    have a2 : IntOp.cmpi .sle (BitVec.ofNat 32 (k b' n' q').val) 199#32 = 1#1 := by
      show BitVec.ofBool (BitVec.sle _ _) = 1#1
      rw [BitVec.sle_eq_decide, h0, decide_eq_true (by
        show ((k b' n' q').val : Int) ≤ 199
        omega)]
      rfl
    rw [a1, a2]
    rfl
  refine (select_one _ _ _ _ hin).trans ?_
  exact gather_at x _ b n q _ (wrapped_at i b n q (k b n q).isLt (h b n q))

/-! ## The running sum -/

/-- The sums along the middle axis up to and with each place. -/
def running (x : FVec Ideal S1024x200x128 .f32) : FVec Ideal S1024x200x128 .f32 :=
  Host.reduceWindowAdd ![1, 200, 1] ![1, 1, 1] ![0, 199, 0] ![0, 0, 0] x
    (broadcastInDim S_ ![] bcast_S_S_ (constant S_ .f32 0x00000000#32)) reduceWindows_S1024x200x128_S1024x200x128_w1s1p0_0_w200s1p199_0_w1s1p0_0 h_S_

theorem foldl_sum {ι : Type} (l : List ι) (f : ι → EReal) (z : EReal) : l.foldl (fun r n => r + f n) z = z + (l.map f).sum := by
  induction l generalizing z with
  | nil => simp
  | cons a l ih => rw [List.foldl_cons, ih, List.map_cons, List.sum_cons, add_assoc]

/-- The window, as a shape. -/
abbrev window : Shape := ⟨3, ![1, 200, 1]⟩

/-- The window's places are the middle coordinate's. -/
theorem sum_places (g : window.Idx → EReal) : ∑ n : Fin window.numel, g (window.rowMajor.symm n) = ∑ k : Fin 200, g (ix3 (0 : Fin 1) k (0 : Fin 1)) := by
  rw [Equiv.sum_comp window.rowMajor.symm g]
  refine (Fintype.sum_bijective (fun k : Fin 200 => (ix3 (0 : Fin 1) k (0 : Fin 1) : window.Idx)) ⟨fun a b h => congrFun h 1, fun j => ⟨j 1, ?_⟩⟩ _ _
    fun _ => rfl).symm
  funext a
  match a with
  | ⟨0, _⟩ => exact Subsingleton.elim (α := Fin 1) _ _
  | ⟨1, _⟩ => rfl
  | ⟨2, _⟩ => exact Subsingleton.elim (α := Fin 1) _ _

/-- The places of a window that ends at a given place, counted from the first place of the axis. -/
theorem sum_ending (x : Fin 200 → EReal) (n : Fin 200) :
    (∑ k : Fin 200, if h : 199 ≤ n.val + k.val ∧ n.val + k.val - 199 < 200 then x ⟨n.val + k.val - 199, h.2⟩ else 0)
      = ∑ j : Fin 200, if j ≤ n then x j else 0 := by
  refine Fintype.sum_equiv (Equiv.addRight (⟨(n.val + 1) % 200, Nat.mod_lt _ (by omega)⟩ : Fin 200)) _ _ fun k => ?_
  have e : (Equiv.addRight (⟨(n.val + 1) % 200, Nat.mod_lt _ (by omega)⟩ : Fin 200) k).val = (k.val + (n.val + 1) % 200) % 200 := rfl
  have hk := k.isLt
  have hn := n.isLt
  by_cases h : 199 ≤ n.val + k.val
  · have e' : Equiv.addRight (⟨(n.val + 1) % 200, Nat.mod_lt _ (by omega)⟩ : Fin 200) k = ⟨n.val + k.val - 199, by omega⟩ := Fin.ext (e.trans (by
      show (k.val + (n.val + 1) % 200) % 200 = n.val + k.val - 199
      omega))
    rw [e', dif_pos ⟨h, by omega⟩, if_pos (Fin.le_def.2 (by
      show n.val + k.val - 199 ≤ n.val
      omega))]
  · rw [dif_neg fun h' => h h'.1, if_neg fun h' => by
      have h2 := Fin.le_def.1 h'
      rw [e] at h2
      omega]

theorem running_at (x : FVec Ideal S1024x200x128 .f32) (b : Fin 1024) (n : Fin 200) (q : Fin 128) :
    running x (ix3 b n q) = ∑ j : Fin 200, if j ≤ n then x (ix3 b j q) else 0 := by
  have z : (broadcastInDim S_ ![] bcast_S_S_ (constant (F := Ideal) S_ .f32 0x00000000#32)) (Shape.Idx.first h_S_) = (0 : EReal) := Ideal.ofBits_zero_f32
  have e : running x (ix3 b n q) = Ideal.hostReduceWindowAdd ![1, 200, 1] ![1, 1, 1] ![0, 199, 0] ![0, 0, 0]
      reduceWindows_S1024x200x128_S1024x200x128_w1s1p0_0_w200s1p199_0_w1s1p0_0 x
      ((broadcastInDim S_ ![] bcast_S_S_ (constant (F := Ideal) S_ .f32 0x00000000#32)) (Shape.Idx.first h_S_)) (ix3 b n q) := rfl
  rw [e, z]
  unfold Ideal.hostReduceWindowAdd Host.reduceWindow
  refine (foldl_sum _ _ _).trans ?_
  rw [zero_add, ← sum_ending fun j => x (ix3 b j q), ← List.ofFn_eq_map, List.sum_ofFn]
  refine (sum_places fun w => @dite EReal (∀ a : Fin 3, (![0, 199, 0] : Fin 3 → Nat) a ≤ (ix3 b n q a).val * (![1, 1, 1] : Fin 3 → Nat) a + (w a).val
      ∧ (ix3 b n q a).val * (![1, 1, 1] : Fin 3 → Nat) a + (w a).val - (![0, 199, 0] : Fin 3 → Nat) a < S1024x200x128.size a)
    (Nat.decidableForallFin _) (fun h => x fun a => ⟨(ix3 b n q a).val * (![1, 1, 1] : Fin 3 → Nat) a + (w a).val - (![0, 199, 0] : Fin 3 → Nat) a, (h a).2⟩)
    fun _ => 0).trans ?_
  refine Finset.sum_congr rfl fun k _ => ?_
  have hb := b.isLt
  have hq := q.isLt
  by_cases h : 199 ≤ n.val + k.val ∧ n.val + k.val - 199 < 200
  · have h' : ∀ a : Fin 3, (![0, 199, 0] : Fin 3 → Nat) a ≤ (ix3 b n q a).val * (![1, 1, 1] : Fin 3 → Nat) a + ((ix3 (0 : Fin 1) k (0 : Fin 1) : window.Idx) a).val
        ∧ (ix3 b n q a).val * (![1, 1, 1] : Fin 3 → Nat) a + ((ix3 (0 : Fin 1) k (0 : Fin 1) : window.Idx) a).val - (![0, 199, 0] : Fin 3 → Nat) a
          < S1024x200x128.size a := fun a => by
      match a with
      | ⟨0, _⟩ =>
        show 0 ≤ b.val * 1 + 0 ∧ b.val * 1 + 0 - 0 < 1024
        omega
      | ⟨1, _⟩ =>
        show 199 ≤ n.val * 1 + k.val ∧ n.val * 1 + k.val - 199 < 200
        omega
      | ⟨2, _⟩ =>
        show 0 ≤ q.val * 1 + 0 ∧ q.val * 1 + 0 - 0 < 128
        omega
    rw [dif_pos h, dif_pos h']
    refine congrArg x (funext fun a => Fin.ext ?_)
    match a with
    | ⟨0, _⟩ =>
      show b.val * 1 + 0 - 0 = b.val
      omega
    | ⟨1, _⟩ =>
      show n.val * 1 + k.val - 199 = n.val + k.val - 199
      omega
    | ⟨2, _⟩ =>
      show q.val * 1 + 0 - 0 = q.val
      omega
  · rw [dif_neg h, dif_neg fun h' => h (by
      have h1 := h' 1
      change 199 ≤ n.val * 1 + k.val ∧ n.val * 1 + k.val - 199 < 200 at h1
      omega)]

end Cert.ReferenceIdeal.Take

end
-- ==== Proof.Reference.lean ====
/- What the reference computes, at an example and a slice. -/
module

public import proofs.«01_k».proof.Proof.Take
public import proofs.«01_k».proof.Proof.Lane
public import proofs.«01_k».proof.Proof.Gen.ReferenceIdeal.Run

@[expose] public section

noncomputable section

namespace Cert.ReferenceIdeal.Take

open Idealize.ShloMosaic Idealize.ShloMosaic.TcCoe Cert.ReferenceIdeal Cert.ReferenceIdeal.Gen Idealize.ShloMosaic.Pointwise
open Cert.Quantile

set_option maxRecDepth 16384

/-- The points along each slice. -/
def projection (x : FVec Ideal S1024x200x64 .f32) (t : FVec Ideal S128x64 .f32) : FVec Ideal S1024x200x128 .f32 :=
  Host.dotGeneral dot_S1024x200x64_S128x64_S1024x200x128_2_1_01_0_n_n none x t

/-- The weights over their sums, the same for every slice. -/
def shares (w : FVec Ideal S1024x200 .f32) : FVec Ideal S1024x200x128 .f32 :=
  broadcastInDim S1024x200x128 ![0, 1, 2] bcast_S1024x200x1_S1024x200x128_0_1_2 (broadcastInDim S1024x200x1 ![0, 1] bcast_S1024x200_S1024x200x1_0_1
    (Host.divf w (broadcastInDim S1024x200 ![0, 1] bcast_S1024x1_S1024x200_0_1 (broadcastInDim S1024x1 ![0] bcast_S1024_S1024x1_0
      (Host.reduceAdd w (constant S_ .f32 0x00000000#32) reducesTo_S1024x200_S1024_d1 h_S_)))))

/-- The frequencies times π, the same for every example and point. -/
def rates (f : FVec Ideal S128 .f32) : FVec Ideal S1024x200x128 .f32 :=
  broadcastInDim S1024x200x128 ![0, 1, 2] bcast_S1x1x128_S1024x200x128_0_1_2
    (mulf (broadcastInDim S1x1x128 ![] bcast_S_S1x1x128 (constant S_ .f32 0x40490FDB#32)) (broadcastInDim S1x1x128 ![2] bcast_S128_S1x1x128_2 f))

/-- The terms of the sum over the points, before it is taken. -/
def terms (p w r : FVec Ideal S1024x200x128 .f32) : FVec Ideal S1024x200x128 .f32 :=
  mulf (take p (order p)) (Host.divf (subf (Host.sin (mulf r (running (take w (order p)))))
    (Host.sin (mulf r (subf (running (take w (order p))) (take w (order p)))))) r)

/-- The root of two times the sum of the terms. -/
def value (y : FVec Ideal S1024x200x128 .f32) : FVec Ideal S1024x128 .f32 :=
  mulf (broadcastInDim S1024x128 ![] bcast_S_S1024x128 (id (Host.sqrt (constant S_ .f32 0x40000000#32))))
    (Host.reduceAdd y (constant S_ .f32 0x00000000#32) reducesTo_S1024x200x128_S1024x128_d1 h_S_)

theorem res_eq (m : (ℓ : Loc nD τ sig) → Buf (Elt Ideal) ℓ) (c : Dev nD) :
    Value.res_main_v33 m c = value (terms (projection (m ((c.tc : Thread nD τ).loc main_arg0)) (m ((c.tc : Thread nD τ).loc main_arg2)))
      (shares (m ((c.tc : Thread nD τ).loc main_arg1))) (rates (m ((c.tc : Thread nD τ).loc main_arg3)))) := rfl

theorem projection_at (x : FVec Ideal S1024x200x64 .f32) (t : FVec Ideal S128x64 .f32) (b : Fin 1024) (n : Fin 200) (q : Fin 128) :
    projection x t (ix3 b n q) = ∑ d : Fin 64, x (ix3 b n d) * t (ix2 q d) := by
  pointwise [projection]

theorem shares_at (w : FVec Ideal S1024x200 .f32) (b : Fin 1024) (n : Fin 200) (q : Fin 128) :
    shares w (ix3 b n q) = Ideal.div (w (ix2 b n)) (∑ k : Fin 200, w (ix2 b k)) := by
  pointwise [shares]

theorem rates_at (f : FVec Ideal S128 .f32) (b : Fin 1024) (n : Fin 200) (q : Fin 128) :
    rates f (ix3 b n q) = Ideal.ofBits .f32 0x40490FDB#32 * f (ix1 q) := by
  pointwise [rates]

theorem term_at (t r s w : FVec Ideal S1024x200x128 .f32) (i : S1024x200x128.Idx) :
    mulf t (Host.divf (subf (Host.sin (mulf r s)) (Host.sin (mulf r (subf s w)))) r) i
      = (t i : EReal) * Ideal.div (Ideal.sin (r i * s i) - Ideal.sin (r i * (s i - w i))) (r i) := rfl

theorem terms_at (p w r : FVec Ideal S1024x200x128 .f32) (i : S1024x200x128.Idx) :
    terms p w r i = (take p (order p) i : EReal) * Ideal.div (Ideal.sin (r i * running (take w (order p)) i)
      - Ideal.sin (r i * (running (take w (order p)) i - take w (order p) i))) (r i) := by
  rw [terms]
  exact term_at _ _ _ _ i

theorem root_two : Host.sqrt (constant (F := Ideal) S_ .f32 0x40000000#32) ix0 = ((Real.sqrt 2 : ℝ) : EReal) := by
  have h : Ideal.ofBits .f32 0x40000000#32 = ((2 : ℝ) : EReal) := by
    simp [Ideal.ofBits, Ideal.ieee]
    rw [← EReal.coe_mul]
    norm_num
  show Ideal.sqrt (Ideal.ofBits .f32 0x40000000#32) = _
  rw [h]
  exact if_neg (by norm_num)

theorem value_at (y : FVec Ideal S1024x200x128 .f32) (b : Fin 1024) (q : Fin 128) :
    value y (ix2 b q) = ((Real.sqrt 2 : ℝ) : EReal) * ∑ n : Fin 200, y (ix3 b n q) := by
  pointwise [value]
  exact congrArg (fun z : EReal => z * ∑ n : Fin 200, y (ix3 b n q)) root_two

/-- The reference at an example and a slice, where everything is real. -/
theorem value_real (p w r : FVec Ideal S1024x200x128 .f32) (b : Fin 1024) (q : Fin 128) (x v : Fin 200 → ℝ) (φ : ℝ) (hφ : φ ≠ 0)
    (hx : ∀ n, p (ix3 b n q) = ((x n : ℝ) : EReal)) (hw : ∀ n, w (ix3 b n q) = ((v n : ℝ) : EReal)) (hr : ∀ n, r (ix3 b n q) = ((φ : ℝ) : EReal)) :
    value (terms p w r) (ix2 b q) = ((Real.sqrt 2 : ℝ) : EReal)
      * ((total (fun y => Real.sin (y * φ)) (x ∘ place p b q) (v ∘ place p b q) : ℝ) : EReal) * Ideal.div 1 (φ : EReal) := by
  have one : ∀ n, terms p w r (ix3 b n q) = (((x ∘ place p b q) n * (Real.sin (cum (v ∘ place p b q) n * φ)
      - Real.sin ((cum (v ∘ place p b q) n - (v ∘ place p b q) n) * φ)) * φ⁻¹ : ℝ) : EReal) := by
    intro n
    have ht : ∀ (a : FVec Ideal S1024x200x128 .f32) (k : Fin 200), take a (order p) (ix3 b k q) = a (ix3 b (place p b q k) q) := fun a k =>
      take_at a (order p) (fun b n q => place p b q n) (fun b n q => order_at p b n q) b k q
    have hs : running (take w (order p)) (ix3 b n q) = ((cum (v ∘ place p b q) n : ℝ) : EReal) := by
      rw [running_at]
      unfold cum
      rw [Cert.KernelIdeal.Payload.coe_sum]
      refine Finset.sum_congr rfl fun j _ => ?_
      rw [ht, hw]
      split
      · rfl
      · rfl
    rw [terms_at, hs, ht, ht, hx, hw, hr, ← EReal.coe_sub, ← EReal.coe_mul, ← EReal.coe_mul, Ideal.sin_coe, Ideal.sin_coe, ← EReal.coe_sub,
      Ideal.div_coe hφ, ← EReal.coe_mul, ← EReal.coe_mul, mul_comm φ, mul_comm φ, one_div, ← mul_assoc]
    rfl
  rw [value_at, Finset.sum_congr rfl fun n _ => one n, ← Cert.KernelIdeal.Payload.coe_sum, ← Finset.sum_mul,
    abel (fun y => Real.sin (y * φ)) (by simp)]
  rw [show (1 : EReal) = ((1 : ℝ) : EReal) from rfl, Ideal.div_coe hφ, EReal.coe_mul, ← mul_assoc, one_div, EReal.coe_one, one_mul]

/-- Where dividing by the rate gives zero, the reference is zero. -/
theorem value_zero (p w r : FVec Ideal S1024x200x128 .f32) (b : Fin 1024) (q : Fin 128)
    (hr : ∀ (n : Fin 200) (z : EReal), Ideal.div z (r (ix3 b n q)) = 0) : value (terms p w r) (ix2 b q) = 0 := by
  rw [value_at, Finset.sum_eq_zero fun n _ => by rw [terms_at, hr, mul_zero], mul_zero]

end Cert.ReferenceIdeal.Take

end
-- ==== Proof.Regular.lean ====
/- What the precondition says of the arguments, and that the two programs then agree. -/
module

public import proofs.«01_k».proof.Proof.KernelValue
public import proofs.«01_k».proof.Proof.Reference
public import proofs.«01_k».proof.Proof.Gen.Pre_regular
public import Idealize.ShloMosaic.Lib.ReduceAll

@[expose] public section

noncomputable section

namespace Cert.Regular

open Idealize.ShloMosaic Idealize.ShloMosaic.TcCoe Idealize.ShloMosaic.Pointwise
open Cert.Pre_regular Cert.Pre_regular.Gen

set_option maxRecDepth 16384

/-! ## The precondition, read -/

theorem top_word : Ideal.ofBits .f32 0x7F800000#32 = ⊤ := by simp [Ideal.ofBits, Ideal.ieee]

/-- A number whose absolute value is below infinity is real. -/
theorem real_of_abs (x : EReal) (h : Ideal.cmp .olt (max x (-x)) (Ideal.ofBits .f32 0x7F800000#32) = 1#1) : ∃ r : ℝ, x = r := by
  have h' : max x (-x) < ⊤ := by
    by_contra hn
    have e : Ideal.cmp .olt (max x (-x)) (Ideal.ofBits .f32 0x7F800000#32) = 0#1 := by
      rw [top_word]
      show BitVec.ofBool (decide (max x (-x) < ⊤)) = 0#1
      rw [decide_eq_false hn]
      rfl
    rw [e] at h
    exact absurd h (by decide)
  induction x with
  | bot => exact absurd h' (by simp)
  | top => exact absurd h' (by simp)
  | coe r => exact ⟨r, rfl⟩

theorem ne_of_une (x : EReal) (h : Ideal.cmp .une x (Ideal.ofBits .f32 0x00000000#32) = 1#1) : x ≠ 0 := by
  intro e
  have e' : Ideal.cmp .une x (Ideal.ofBits .f32 0x00000000#32) = 0#1 := by
    rw [Ideal.ofBits_zero_f32, e]
    show BitVec.ofBool (decide ((0 : EReal) ≠ 0)) = 0#1
    rw [decide_eq_false (fun h => h rfl)]
    rfl
  rw [e'] at h
  exact absurd h (by decide)

theorem sums_at (w : FVec Ideal S1024x200 .f32) (b : Fin 1024) :
    Host.reduceAdd w (constant (F := Ideal) S_ .f32 0x00000000#32) reducesTo_S1024x200_S1024_d1 h_S_ (ix1 b) = ∑ k : Fin 200, w (ix2 b k) := by
  pointwise

theorem S_one : Subsingleton S_.Idx := ⟨fun a b => funext fun e => e.elim0⟩

theorem regular_iff (x : FVec Ideal S1024x200x64 .f32) (w : FVec Ideal S1024x200 .f32) (t : FVec Ideal S128x64 .f32) (f : FVec Ideal S128 .f32)
    (h : fn (F := Ideal) x w t f = fun _ => 1#1) :
    (∀ i, ∃ r : ℝ, x i = (r : EReal)) ∧ (∀ i, ∃ r : ℝ, t i = (r : EReal)) ∧ (∀ b, ∑ k : Fin 200, w (ix2 b k) ≠ (0 : EReal))
      ∧ ∀ q, f (ix1 q) ≠ (0 : EReal) := by
  haveI := S_one
  have h0 := congrFun h ix0
  dsimp only [fn, fn_part1] at h0
  obtain ⟨h1, hf⟩ := IntOp.andi_eq_one.1 h0
  obtain ⟨h2, hw⟩ := IntOp.andi_eq_one.1 h1
  obtain ⟨hx, ht⟩ := IntOp.andi_eq_one.1 h2
  refine ⟨fun i => real_of_abs _ (Host.reduce_andi_all _ _ _ _ _ hx i), fun i => real_of_abs _ (Host.reduce_andi_all _ _ _ _ _ ht i), fun b => ?_,
    fun q => ne_of_une _ (Host.reduce_andi_all _ _ _ _ _ hf (ix1 q))⟩
  have := ne_of_une _ (Host.reduce_andi_all _ _ _ _ _ hw (ix1 b))
  rwa [sums_at] at this

/-! ## Numbers -/

theorem div_infinite (z : EReal) : Ideal.div z ⊤ = 0 ∧ Ideal.div z ⊥ = 0 := by
  constructor
  · rw [Ideal.div, if_neg (by simp), EReal.inv_top, mul_zero]
  · rw [Ideal.div, if_neg (by simp), EReal.inv_bot, mul_zero]

/-- A sum that is real has real terms. -/
theorem real_term (a b : EReal) (r : ℝ) (h : a + b = r) : ∃ s : ℝ, a = s := by
  induction a with
  | bot => exact absurd h (by simp)
  | coe s => exact ⟨s, rfl⟩
  | top =>
    induction b with
    | bot => exact absurd h (by simp)
    | coe s => exact absurd h (by simp)
    | top => exact absurd h (by simp)

/-- A weight over a sum that is not zero is real. -/
theorem share_real (w : Fin 200 → EReal) (h : ∑ k, w k ≠ 0) (n : Fin 200) : ∃ r : ℝ, Ideal.div (w n) (∑ k, w k) = r := by
  generalize hs : ∑ k, w k = s at h
  induction s with
  | bot => exact ⟨0, (div_infinite _).2⟩
  | top => exact ⟨0, (div_infinite _).1⟩
  | coe s =>
    obtain ⟨r, hr⟩ := real_term (w n) (∑ k ∈ Finset.univ.erase n, w k) s ((Finset.add_sum_erase _ _ (Finset.mem_univ n)).trans hs)
    refine ⟨r * (1 / s), ?_⟩
    rw [hr, Ideal.div_coe (fun e => h (by rw [e]; rfl)), EReal.coe_mul]

theorem pi_real : ∃ p : ℝ, 0 < p ∧ Ideal.ofBits .f32 0x40490FDB#32 = (p : EReal) := by
  refine ⟨13176795 / 4194304, by norm_num, ?_⟩
  simp [Ideal.ofBits, Ideal.ieee]
  rw [← EReal.coe_mul]
  norm_num

/-- A frequency that is not zero, times π: real and not zero, or infinite. -/
theorem rate_cases (f : EReal) (h : f ≠ 0) :
    (∃ φ : ℝ, φ ≠ 0 ∧ Ideal.ofBits .f32 0x40490FDB#32 * f = (φ : EReal)) ∨ ∀ z, Ideal.div z (Ideal.ofBits .f32 0x40490FDB#32 * f) = 0 := by
  obtain ⟨p, hp, e⟩ := pi_real
  rw [e]
  induction f with
  | bot => exact Or.inr fun z => by rw [EReal.coe_mul_bot_of_pos hp]; exact (div_infinite z).2
  | top => exact Or.inr fun z => by rw [EReal.coe_mul_top_of_pos hp]; exact (div_infinite z).1
  | coe f => exact Or.inl ⟨p * f, mul_ne_zero hp.ne' (fun e => h (by rw [e]; rfl)), (EReal.coe_mul _ _).symm⟩

/-! ## The two programs -/

open Cert.KernelIdeal.Operands (points weights slices freqs)
open Cert.ReferenceIdeal.Take (projection shares rates terms value)

variable (m : (ℓ : Loc Cert.KernelIdeal.nD Cert.KernelIdeal.τ Cert.KernelIdeal.sig) → Buf (Elt Ideal) ℓ) (c : Dev Cert.KernelIdeal.nD)

theorem agree_at (h : fn (F := Ideal) (points m c) (weights m c) (slices m c) (freqs m c) = fun _ => 1#1) (b : Fin 1024) (q : Fin 128) :
    value (terms (projection (points m c) (slices m c)) (shares (weights m c)) (rates (freqs m c))) (ix2 b q)
      = Cert.KernelIdeal.Blocks.out m c (ix2 b q) := by
  obtain ⟨hx, ht, hw, hf⟩ := regular_iff _ _ _ _ h
  choose X hX using hx
  choose T hT using ht
  choose V hV using fun n => share_real (fun k => weights m c (ix2 b k)) (hw b) n
  have hP : ∀ n : Fin 200, ∑ d : Fin 64, points m c (ix3 b n d) * slices m c (ix2 q d) = ((∑ d : Fin 64, X (ix3 b n d) * T (ix2 q d) : ℝ) : EReal) := by
    intro n
    rw [Cert.KernelIdeal.Payload.coe_sum]
    refine Finset.sum_congr rfl fun d _ => ?_
    rw [EReal.coe_mul, hX, hT]
  rcases rate_cases (freqs m c (ix1 q)) (hf q) with ⟨φ, hφ, e⟩ | e
  · obtain ⟨σ, hσ, ho⟩ := Cert.KernelIdeal.Blocks.out_at_real m c b q _ V φ hP hV e
    have hp := fun n => (Cert.ReferenceIdeal.Take.projection_at (points m c) (slices m c) b n q).trans (hP n)
    rw [ho, Cert.ReferenceIdeal.Take.value_real _ _ _ b q _ V φ hφ hp
      (fun n => (Cert.ReferenceIdeal.Take.shares_at _ b n q).trans (hV n)) (fun n => (Cert.ReferenceIdeal.Take.rates_at _ b n q).trans e),
      Cert.Quantile.total_sorted _ _ V _ σ (Cert.ReferenceIdeal.Take.place_sorted _ b q _ hp) hσ]
  · rw [Cert.KernelIdeal.Blocks.out_at_zero m c b q (e 1)]
    exact Cert.ReferenceIdeal.Take.value_zero _ _ _ b q fun n z => by
      rw [Cert.ReferenceIdeal.Take.rates_at]
      exact e z

theorem agree (h : fn (F := Ideal) (points m c) (weights m c) (slices m c) (freqs m c) = fun _ => 1#1) :
    value (terms (projection (points m c) (slices m c)) (shares (weights m c)) (rates (freqs m c))) = Cert.KernelIdeal.Blocks.out m c := by
  funext i
  rw [eq_ix2 i]
  exact agree_at m c h _ _

end Cert.Regular

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_regular
public import proofs.«01_k».proof.Proof.Regular
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments unchanged; it has no semaphores at all. -/
theorem frame_ri : Cert.quiescent_ReferenceIdeal := fun m ρ _ =>
  (θ_run Cert.ReferenceIdeal.defs _ _).mono (fun r h => ⟨fun c => (h c).2,
      sem_eq_zero_of_no_sems (by decide) r.2⟩)
    (Cert.ReferenceIdeal.Value.run (F := Ideal) m ρ)

/-- The two named constants print the values the table gives them. -/
theorem preserves : Cert.preserves_Kernel_KernelIdeal :=
  ⟨IdealRules.named_const.statement Cert.KernelIdeal.κ "pad" .f32 0x7149F2CA#32 ⊤ rfl,
    IdealRules.named_const.statement Cert.KernelIdeal.κ "root_two" .f32 0x3FB504F3#32 ((Real.sqrt 2 : ℝ) : EReal) rfl⟩

/-- From equal arguments that meet the precondition the kernel and the reference leave the same array. -/
theorem algebraic : Cert.algebraic_KernelIdeal_ReferenceIdeal_pre_regular := fun m g m' g' hp ha =>
  ⟨Cert.KernelIdeal.Blocks.out m, Cert.KernelIdeal.Blocks.run m g,
    (θ_run Cert.ReferenceIdeal.defs _ _).mono (fun _ h c => ⟨(h c).1.trans (by
        rw [Cert.ReferenceIdeal.Take.res_eq, (ha c).1, (ha c).2.1, (ha c).2.2.1, (ha c).2.2.2]
        exact Cert.Regular.agree m c (hp c)), (h c).2⟩)
      (Cert.ReferenceIdeal.Value.run (F := Ideal) m' g')⟩

theorem claim : Cert.Claim :=
  ⟨Cert.Kernel.Gen.facts, Cert.KernelIdeal.Gen.facts, Cert.ReferenceIdeal.Gen.facts, Cert.Pre_regular.Gen.facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial, preserves, algebraic⟩

end Cert.Proof

end
